-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x32x64 : S_.BroadcastsInDim S2x128x32x64 (![] : Fin 0 → Fin S2x128x32x64.rank)

variable [Facts]

def fn {F : FTy → Type} [FloatOps F] (main_arg0 : FVec F S2x128x512 .bf16) (main_arg1 : FVec F S512x256 .bf16) (main_arg2 : FVec F S2x128x32x64 .bf16) (main_arg3 : FVec F S2x128x32x64 .bf16) (main_arg4 : FVec F S256x512 .bf16) : IVec S2x128x512 1 × IVec S512x256 1 × IVec S2x128x32x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x128x32x64 .f32 := (extf .f32 · bitsLt_bf16_f32) main_arg2
  let main_v9 : FVec F S2x128x32x64 .f32 := Host.absf main_v8
  let main_cst_1 : FVec F S_ .f32 := constant S_ .f32 0x7F800000#32
  let main_v10 : FVec F S2x128x32x64 .f32 := broadcastInDim S2x128x32x64 ![] bcast_S_S2x128x32x64 main_cst_1
  let main_v11 : IVec S2x128x32x64 1 := cmpf .olt main_v9 main_v10
  (main_v3, main_v7, main_v11)
-- ==== Pre_finite_ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x2048 : S_.BroadcastsInDim S512x2048 (![] : Fin 0 → Fin S512x2048.rank)
  bcast_S_S2x1024x32x64 : S_.BroadcastsInDim S2x1024x32x64 (![] : Fin 0 → Fin S2x1024x32x64.rank)

variable [Facts]

def fn {F : FTy → Type} [FloatOps F] (main_arg0 : FVec F S2x128x512 .bf16) (main_arg1 : FVec F S512x2048 .bf16) (main_arg2 : FVec F S2x1024x32x64 .bf16) (main_arg3 : FVec F S2x1024x32x64 .bf16) (main_arg4 : FVec F S2048x512 .bf16) : IVec S2x128x512 1 × IVec S512x2048 1 × IVec S2x1024x32x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x2048 .f32 := (extf .f32 · bitsLt_bf16_f32) main_arg1
  let main_v5 : FVec F S512x2048 .f32 := Host.absf main_v4
  let main_cst_0 : FVec F S_ .f32 := constant S_ .f32 0x7F800000#32
  let main_v6 : FVec F S512x2048 .f32 := broadcastInDim S512x2048 ![] bcast_S_S512x2048 main_cst_0
  let main_v7 : IVec S512x2048 1 := cmpf .olt main_v5 main_v6
  let main_v8 : FVec F S2x1024x32x64 .f32 := (extf .f32 · bitsLt_bf16_f32) main_arg2
  let main_v9 : FVec F S2x1024x32x64 .f32 := Host.absf main_v8
  let main_cst_1 : FVec F S_ .f32 := constant S_ .f32 0x7F800000#32
  let main_v10 : FVec F S2x1024x32x64 .f32 := broadcastInDim S2x1024x32x64 ![] bcast_S_S2x1024x32x64 main_cst_1
  let main_v11 : IVec S2x1024x32x64 1 := cmpf .olt main_v9 main_v10
  (main_v3, main_v7, main_v11)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S8x2x2x128x4x64 : Shape := ⟨6, ![8, 2, 2, 128, 4, 64]⟩
abbrev S4x2x2x128x4x64 : Shape := ⟨6, ![4, 2, 2, 128, 4, 64]⟩
abbrev S8x2x128x512 : Shape := ⟨4, ![8, 2, 128, 512]⟩
abbrev S2x128x4x64 : Shape := ⟨4, ![2, 128, 4, 64]⟩
abbrev S8 : Shape := ⟨1, ![8]⟩
abbrev S4 : Shape := ⟨1, ![4]⟩
abbrev S_ : Shape := ⟨0, ![]⟩
abbrev S1x1x2x128x4x64 : Shape := ⟨6, ![1, 1, 2, 128, 4, 64]⟩
abbrev S1 : Shape := ⟨1, ![1]⟩
abbrev S1x2x2x128x4x64 : Shape := ⟨6, ![1, 2, 2, 128, 4, 64]⟩
abbrev S2x2x128x4x64 : Shape := ⟨5, ![2, 2, 128, 4, 64]⟩
abbrev S256x256 : Shape := ⟨2, ![256, 256]⟩
abbrev S4x1x2x128x4x64 : Shape := ⟨6, ![4, 1, 2, 128, 4, 64]⟩
abbrev S4x2x128x4x64 : Shape := ⟨5, ![4, 2, 128, 4, 64]⟩
abbrev S2x64x4x64 : Shape := ⟨4, ![2, 64, 4, 64]⟩
abbrev S1x2x64x4x64 : Shape := ⟨5, ![1, 2, 64, 4, 64]⟩
abbrev S2x256x4x64 : Shape := ⟨4, ![2, 256, 4, 64]⟩
abbrev S2x64x1x64 : Shape := ⟨4, ![2, 64, 1, 64]⟩
abbrev S2x64x64 : Shape := ⟨3, ![2, 64, 64]⟩
abbrev S2x256x1x64 : Shape := ⟨4, ![2, 256, 1, 64]⟩
abbrev S2x256x64 : Shape := ⟨3, ![2, 256, 64]⟩
abbrev S2x64x256 : Shape := ⟨3, ![2, 64, 256]⟩
abbrev S2x64 : Shape := ⟨2, ![2, 64]⟩
abbrev S2x64x1 : Shape := ⟨3, ![2, 64, 1]⟩
abbrev S2x128x256 : Shape := ⟨3, ![2, 128, 256]⟩
abbrev S1x128x256 : Shape := ⟨3, ![1, 128, 256]⟩
abbrev S128x256 : Shape := ⟨2, ![128, 256]⟩
abbrev S128x512 : Shape := ⟨2, ![128, 512]⟩
abbrev S1x128x512 : Shape := ⟨3, ![1, 128, 512]⟩
abbrev S1x2x128x512 : Shape := ⟨4, ![1, 2, 128, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x32x64, .bf16⟩
  | .hbm, ⟨3, _⟩ => ⟨S2x128x32x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x32x64, .bf16⟩
  | .local _ .vmem, ⟨3, _⟩ => ⟨S2x128x32x64, .bf16⟩
  | .local _ .vmem, ⟨4, _⟩ => ⟨S256x512, .bf16⟩
  | .local _ .vmem, ⟨5, _⟩ => ⟨S2x128x512, .f32⟩
  | .local _ .vmem, ⟨6, _⟩ => ⟨S8x2x2x128x4x64, .bf16⟩
  | .local _ .vmem, ⟨7, _⟩ => ⟨S4x2x2x128x4x64, .bf16⟩
  | .local _ .vmem, ⟨8, _⟩ => ⟨S2x128x512, .bf16⟩
  | .local _ .vmem, ⟨9, _⟩ => ⟨S8x2x128x512, .bf16⟩
  | .local _ .vmem, ⟨10, _⟩ => ⟨S2x128x4x64, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_275 : BitVec 32 := 0#32
  let c0_i32_273 : BitVec 32 := 0#32
  let c1_i32_274 : BitVec 32 := 1#32
  let v528 : BitVec 32 := Scalar.muli c0_i32_273 c1_i32_274
  let v529 : BitVec 32 := Scalar.addi c0_i32_275 v528
  v529.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_275 : BitVec 32 := 0#32
  let c1_i32_273 : BitVec 32 := 1#32
  let c1_i32_274 : BitVec 32 := 1#32
  let v528 : BitVec 32 := Scalar.muli c1_i32_273 c1_i32_274
  let v529 : BitVec 32 := Scalar.addi c0_i32_275 v528
  v529.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_275 : BitVec 32 := 0#32
  let c2_i32_273 : BitVec 32 := 2#32
  let c1_i32_274 : BitVec 32 := 1#32
  let v528 : BitVec 32 := Scalar.muli c2_i32_273 c1_i32_274
  let v529 : BitVec 32 := Scalar.addi c0_i32_275 v528
  v529.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_275 : BitVec 32 := 0#32
  let c3_i32_273 : BitVec 32 := 3#32
  let c1_i32_274 : BitVec 32 := 1#32
  let v528 : BitVec 32 := Scalar.muli c3_i32_273 c1_i32_274
  let v529 : BitVec 32 := Scalar.addi c0_i32_275 v528
  v529.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_275 : BitVec 32 := 0#32
  let c4_i32_273 : BitVec 32 := 4#32
  let c1_i32_274 : BitVec 32 := 1#32
  let v528 : BitVec 32 := Scalar.muli c4_i32_273 c1_i32_274
  let v529 : BitVec 32 := Scalar.addi c0_i32_275 v528
  v529.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_275 : BitVec 32 := 0#32
  let c5_i32_273 : BitVec 32 := 5#32
  let c1_i32_274 : BitVec 32 := 1#32
  let v528 : BitVec 32 := Scalar.muli c5_i32_273 c1_i32_274
  let v529 : BitVec 32 := Scalar.addi c0_i32_275 v528
  v529.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_275 : BitVec 32 := 0#32
  let c6_i32_273 : BitVec 32 := 6#32
  let c1_i32_274 : BitVec 32 := 1#32
  let v528 : BitVec 32 := Scalar.muli c6_i32_273 c1_i32_274
  let v529 : BitVec 32 := Scalar.addi c0_i32_275 v528
  v529.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_275 : BitVec 32 := 0#32
  let c7_i32_273 : BitVec 32 := 7#32
  let c1_i32_274 : BitVec 32 := 1#32
  let v528 : BitVec 32 := Scalar.muli c7_i32_273 c1_i32_274
  let v529 : BitVec 32 := Scalar.addi c0_i32_275 v528
  v529.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .eq v2 c0_i32_10
  let v29 : BitVec 32 := Scalar.extui v28
  let c0_i32_11 : BitVec 32 := 0#32
  let v30 : BitVec 1 := Scalar.cmpi .ne v29 c0_i32_11
  v30

def k0_dev9 : Nat :=
  let c0_i32_318 : BitVec 32 := 0#32
  let c1_i32_316 : BitVec 32 := 1#32
  let c1_i32_317 : BitVec 32 := 1#32
  let v548 : BitVec 32 := Scalar.muli c1_i32_316 c1_i32_317
  let v549 : BitVec 32 := Scalar.addi c0_i32_318 v548
  v549.toNat
def k0_dev10 : Nat :=
  let c0_i32_354 : BitVec 32 := 0#32
  let c2_i32_352 : BitVec 32 := 2#32
  let c1_i32_353 : BitVec 32 := 1#32
  let v568 : BitVec 32 := Scalar.muli c2_i32_352 c1_i32_353
  let v569 : BitVec 32 := Scalar.addi c0_i32_354 v568
  v569.toNat
def k0_dev11 : Nat :=
  let c0_i32_390 : BitVec 32 := 0#32
  let c3_i32_388 : BitVec 32 := 3#32
  let c1_i32_389 : BitVec 32 := 1#32
  let v588 : BitVec 32 := Scalar.muli c3_i32_388 c1_i32_389
  let v589 : BitVec 32 := Scalar.addi c0_i32_390 v588
  v589.toNat
def k0_dev12 : Nat :=
  let c0_i32_426 : BitVec 32 := 0#32
  let c4_i32_424 : BitVec 32 := 4#32
  let c1_i32_425 : BitVec 32 := 1#32
  let v608 : BitVec 32 := Scalar.muli c4_i32_424 c1_i32_425
  let v609 : BitVec 32 := Scalar.addi c0_i32_426 v608
  v609.toNat
def k0_dev13 : Nat :=
  let c0_i32_462 : BitVec 32 := 0#32
  let c5_i32_460 : BitVec 32 := 5#32
  let c1_i32_461 : BitVec 32 := 1#32
  let v628 : BitVec 32 := Scalar.muli c5_i32_460 c1_i32_461
  let v629 : BitVec 32 := Scalar.addi c0_i32_462 v628
  v629.toNat
def k0_dev14 : Nat :=
  let c0_i32_498 : BitVec 32 := 0#32
  let c6_i32_496 : BitVec 32 := 6#32
  let c1_i32_497 : BitVec 32 := 1#32
  let v648 : BitVec 32 := Scalar.muli c6_i32_496 c1_i32_497
  let v649 : BitVec 32 := Scalar.addi c0_i32_498 v648
  v649.toNat
def k0_dev15 : Nat :=
  let c0_i32_534 : BitVec 32 := 0#32
  let c7_i32_532 : BitVec 32 := 7#32
  let c1_i32_533 : BitVec 32 := 1#32
  let v668 : BitVec 32 := Scalar.muli c7_i32_532 c1_i32_533
  let v669 : BitVec 32 := Scalar.addi c0_i32_534 v668
  v669.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v31 : BitVec 1 := Scalar.cmpi .eq v2 c2_i32_12
  let v32 : BitVec 32 := Scalar.extui v31
  let c0_i32_13 : BitVec 32 := 0#32
  let v33 : BitVec 1 := Scalar.cmpi .ne v32 c0_i32_13
  v33

def k0_dev16 : Nat :=
  let c0_i32_317 : BitVec 32 := 0#32
  let c0_i32_315 : BitVec 32 := 0#32
  let c1_i32_316 : BitVec 32 := 1#32
  let v548 : BitVec 32 := Scalar.muli c0_i32_315 c1_i32_316
  let v549 : BitVec 32 := Scalar.addi c0_i32_317 v548
  v549.toNat
def k0_dev17 : Nat :=
  let c0_i32_354 : BitVec 32 := 0#32
  let c1_i32_352 : BitVec 32 := 1#32
  let c1_i32_353 : BitVec 32 := 1#32
  let v568 : BitVec 32 := Scalar.muli c1_i32_352 c1_i32_353
  let v569 : BitVec 32 := Scalar.addi c0_i32_354 v568
  v569.toNat
def k0_dev18 : Nat :=
  let c0_i32_390 : BitVec 32 := 0#32
  let c3_i32_388 : BitVec 32 := 3#32
  let c1_i32_389 : BitVec 32 := 1#32
  let v588 : BitVec 32 := Scalar.muli c3_i32_388 c1_i32_389
  let v589 : BitVec 32 := Scalar.addi c0_i32_390 v588
  v589.toNat
def k0_dev19 : Nat :=
  let c0_i32_426 : BitVec 32 := 0#32
  let c4_i32_424 : BitVec 32 := 4#32
  let c1_i32_425 : BitVec 32 := 1#32
  let v608 : BitVec 32 := Scalar.muli c4_i32_424 c1_i32_425
  let v609 : BitVec 32 := Scalar.addi c0_i32_426 v608
  v609.toNat
def k0_dev20 : Nat :=
  let c0_i32_462 : BitVec 32 := 0#32
  let c5_i32_460 : BitVec 32 := 5#32
  let c1_i32_461 : BitVec 32 := 1#32
  let v628 : BitVec 32 := Scalar.muli c5_i32_460 c1_i32_461
  let v629 : BitVec 32 := Scalar.addi c0_i32_462 v628
  v629.toNat
def k0_dev21 : Nat :=
  let c0_i32_498 : BitVec 32 := 0#32
  let c6_i32_496 : BitVec 32 := 6#32
  let c1_i32_497 : BitVec 32 := 1#32
  let v648 : BitVec 32 := Scalar.muli c6_i32_496 c1_i32_497
  let v649 : BitVec 32 := Scalar.addi c0_i32_498 v648
  v649.toNat
def k0_dev22 : Nat :=
  let c0_i32_534 : BitVec 32 := 0#32
  let c7_i32_532 : BitVec 32 := 7#32
  let c1_i32_533 : BitVec 32 := 1#32
  let v668 : BitVec 32 := Scalar.muli c7_i32_532 c1_i32_533
  let v669 : BitVec 32 := Scalar.addi c0_i32_534 v668
  v669.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v34 : BitVec 1 := Scalar.cmpi .eq v2 c4_i32_14
  let v35 : BitVec 32 := Scalar.extui v34
  let c0_i32_15 : BitVec 32 := 0#32
  let v36 : BitVec 1 := Scalar.cmpi .ne v35 c0_i32_15
  v36

def k0_dev23 : Nat :=
  let c0_i32_317 : BitVec 32 := 0#32
  let c0_i32_315 : BitVec 32 := 0#32
  let c1_i32_316 : BitVec 32 := 1#32
  let v548 : BitVec 32 := Scalar.muli c0_i32_315 c1_i32_316
  let v549 : BitVec 32 := Scalar.addi c0_i32_317 v548
  v549.toNat
def k0_dev24 : Nat :=
  let c0_i32_354 : BitVec 32 := 0#32
  let c1_i32_352 : BitVec 32 := 1#32
  let c1_i32_353 : BitVec 32 := 1#32
  let v568 : BitVec 32 := Scalar.muli c1_i32_352 c1_i32_353
  let v569 : BitVec 32 := Scalar.addi c0_i32_354 v568
  v569.toNat
def k0_dev25 : Nat :=
  let c0_i32_390 : BitVec 32 := 0#32
  let c2_i32_388 : BitVec 32 := 2#32
  let c1_i32_389 : BitVec 32 := 1#32
  let v588 : BitVec 32 := Scalar.muli c2_i32_388 c1_i32_389
  let v589 : BitVec 32 := Scalar.addi c0_i32_390 v588
  v589.toNat
def k0_dev26 : Nat :=
  let c0_i32_426 : BitVec 32 := 0#32
  let c3_i32_424 : BitVec 32 := 3#32
  let c1_i32_425 : BitVec 32 := 1#32
  let v608 : BitVec 32 := Scalar.muli c3_i32_424 c1_i32_425
  let v609 : BitVec 32 := Scalar.addi c0_i32_426 v608
  v609.toNat
def k0_dev27 : Nat :=
  let c0_i32_462 : BitVec 32 := 0#32
  let c5_i32_460 : BitVec 32 := 5#32
  let c1_i32_461 : BitVec 32 := 1#32
  let v628 : BitVec 32 := Scalar.muli c5_i32_460 c1_i32_461
  let v629 : BitVec 32 := Scalar.addi c0_i32_462 v628
  v629.toNat
def k0_dev28 : Nat :=
  let c0_i32_498 : BitVec 32 := 0#32
  let c6_i32_496 : BitVec 32 := 6#32
  let c1_i32_497 : BitVec 32 := 1#32
  let v648 : BitVec 32 := Scalar.muli c6_i32_496 c1_i32_497
  let v649 : BitVec 32 := Scalar.addi c0_i32_498 v648
  v649.toNat
def k0_dev29 : Nat :=
  let c0_i32_534 : BitVec 32 := 0#32
  let c7_i32_532 : BitVec 32 := 7#32
  let c1_i32_533 : BitVec 32 := 1#32
  let v668 : BitVec 32 := Scalar.muli c7_i32_532 c1_i32_533
  let v669 : BitVec 32 := Scalar.addi c0_i32_534 v668
  v669.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_16 : BitVec 32 := 6#32
  let v37 : BitVec 1 := Scalar.cmpi .eq v2 c6_i32_16
  let v38 : BitVec 32 := Scalar.extui v37
  let c0_i32_17 : BitVec 32 := 0#32
  let v39 : BitVec 1 := Scalar.cmpi .ne v38 c0_i32_17
  v39

def k0_dev30 : Nat :=
  let c0_i32_317 : BitVec 32 := 0#32
  let c0_i32_315 : BitVec 32 := 0#32
  let c1_i32_316 : BitVec 32 := 1#32
  let v548 : BitVec 32 := Scalar.muli c0_i32_315 c1_i32_316
  let v549 : BitVec 32 := Scalar.addi c0_i32_317 v548
  v549.toNat
def k0_dev31 : Nat :=
  let c0_i32_354 : BitVec 32 := 0#32
  let c1_i32_352 : BitVec 32 := 1#32
  let c1_i32_353 : BitVec 32 := 1#32
  let v568 : BitVec 32 := Scalar.muli c1_i32_352 c1_i32_353
  let v569 : BitVec 32 := Scalar.addi c0_i32_354 v568
  v569.toNat
def k0_dev32 : Nat :=
  let c0_i32_390 : BitVec 32 := 0#32
  let c2_i32_388 : BitVec 32 := 2#32
  let c1_i32_389 : BitVec 32 := 1#32
  let v588 : BitVec 32 := Scalar.muli c2_i32_388 c1_i32_389
  let v589 : BitVec 32 := Scalar.addi c0_i32_390 v588
  v589.toNat
def k0_dev33 : Nat :=
  let c0_i32_426 : BitVec 32 := 0#32
  let c3_i32_424 : BitVec 32 := 3#32
  let c1_i32_425 : BitVec 32 := 1#32
  let v608 : BitVec 32 := Scalar.muli c3_i32_424 c1_i32_425
  let v609 : BitVec 32 := Scalar.addi c0_i32_426 v608
  v609.toNat
def k0_dev34 : Nat :=
  let c0_i32_462 : BitVec 32 := 0#32
  let c4_i32_460 : BitVec 32 := 4#32
  let c1_i32_461 : BitVec 32 := 1#32
  let v628 : BitVec 32 := Scalar.muli c4_i32_460 c1_i32_461
  let v629 : BitVec 32 := Scalar.addi c0_i32_462 v628
  v629.toNat
def k0_dev35 : Nat :=
  let c0_i32_498 : BitVec 32 := 0#32
  let c5_i32_496 : BitVec 32 := 5#32
  let c1_i32_497 : BitVec 32 := 1#32
  let v648 : BitVec 32 := Scalar.muli c5_i32_496 c1_i32_497
  let v649 : BitVec 32 := Scalar.addi c0_i32_498 v648
  v649.toNat
def k0_dev36 : Nat :=
  let c0_i32_534 : BitVec 32 := 0#32
  let c7_i32_532 : BitVec 32 := 7#32
  let c1_i32_533 : BitVec 32 := 1#32
  let v668 : BitVec 32 := Scalar.muli c7_i32_532 c1_i32_533
  let v669 : BitVec 32 := Scalar.addi c0_i32_534 v668
  v669.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_121 : BitVec 32 := 0#32
  let v304 : BitVec 1 := Scalar.cmpi .eq v2 c0_i32_121
  let v305 : BitVec 32 := Scalar.extui v304
  let c0_i32_122 : BitVec 32 := 0#32
  let v306 : BitVec 1 := Scalar.cmpi .ne v305 c0_i32_122
  v306

def k0_dev37 : Nat :=
  let c0_i32_284 : BitVec 32 := 0#32
  let c1_i32_282 : BitVec 32 := 1#32
  let c1_i32_283 : BitVec 32 := 1#32
  let v532 : BitVec 32 := Scalar.muli c1_i32_282 c1_i32_283
  let v533 : BitVec 32 := Scalar.addi c0_i32_284 v532
  v533.toNat
def k0_dev38 : Nat :=
  let c0_i32_293 : BitVec 32 := 0#32
  let c2_i32_291 : BitVec 32 := 2#32
  let c1_i32_292 : BitVec 32 := 1#32
  let v540 : BitVec 32 := Scalar.muli c2_i32_291 c1_i32_292
  let v541 : BitVec 32 := Scalar.addi c0_i32_293 v540
  v541.toNat
def k0_dev39 : Nat :=
  let c0_i32_302 : BitVec 32 := 0#32
  let c3_i32_300 : BitVec 32 := 3#32
  let c1_i32_301 : BitVec 32 := 1#32
  let v548 : BitVec 32 := Scalar.muli c3_i32_300 c1_i32_301
  let v549 : BitVec 32 := Scalar.addi c0_i32_302 v548
  v549.toNat
def k0_dev40 : Nat :=
  let c0_i32_311 : BitVec 32 := 0#32
  let c4_i32_309 : BitVec 32 := 4#32
  let c1_i32_310 : BitVec 32 := 1#32
  let v556 : BitVec 32 := Scalar.muli c4_i32_309 c1_i32_310
  let v557 : BitVec 32 := Scalar.addi c0_i32_311 v556
  v557.toNat
def k0_dev41 : Nat :=
  let c0_i32_320 : BitVec 32 := 0#32
  let c5_i32_318 : BitVec 32 := 5#32
  let c1_i32_319 : BitVec 32 := 1#32
  let v564 : BitVec 32 := Scalar.muli c5_i32_318 c1_i32_319
  let v565 : BitVec 32 := Scalar.addi c0_i32_320 v564
  v565.toNat
def k0_dev42 : Nat :=
  let c0_i32_329 : BitVec 32 := 0#32
  let c6_i32_327 : BitVec 32 := 6#32
  let c1_i32_328 : BitVec 32 := 1#32
  let v572 : BitVec 32 := Scalar.muli c6_i32_327 c1_i32_328
  let v573 : BitVec 32 := Scalar.addi c0_i32_329 v572
  v573.toNat
def k0_dev43 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_123 : BitVec 32 := 1#32
  let v307 : BitVec 1 := Scalar.cmpi .eq v2 c1_i32_123
  let v308 : BitVec 32 := Scalar.extui v307
  let c0_i32_124 : BitVec 32 := 0#32
  let v309 : BitVec 1 := Scalar.cmpi .ne v308 c0_i32_124
  v309

def k0_dev44 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev45 : Nat :=
  let c0_i32_293 : BitVec 32 := 0#32
  let c2_i32_291 : BitVec 32 := 2#32
  let c1_i32_292 : BitVec 32 := 1#32
  let v540 : BitVec 32 := Scalar.muli c2_i32_291 c1_i32_292
  let v541 : BitVec 32 := Scalar.addi c0_i32_293 v540
  v541.toNat
def k0_dev46 : Nat :=
  let c0_i32_302 : BitVec 32 := 0#32
  let c3_i32_300 : BitVec 32 := 3#32
  let c1_i32_301 : BitVec 32 := 1#32
  let v548 : BitVec 32 := Scalar.muli c3_i32_300 c1_i32_301
  let v549 : BitVec 32 := Scalar.addi c0_i32_302 v548
  v549.toNat
def k0_dev47 : Nat :=
  let c0_i32_311 : BitVec 32 := 0#32
  let c4_i32_309 : BitVec 32 := 4#32
  let c1_i32_310 : BitVec 32 := 1#32
  let v556 : BitVec 32 := Scalar.muli c4_i32_309 c1_i32_310
  let v557 : BitVec 32 := Scalar.addi c0_i32_311 v556
  v557.toNat
def k0_dev48 : Nat :=
  let c0_i32_320 : BitVec 32 := 0#32
  let c5_i32_318 : BitVec 32 := 5#32
  let c1_i32_319 : BitVec 32 := 1#32
  let v564 : BitVec 32 := Scalar.muli c5_i32_318 c1_i32_319
  let v565 : BitVec 32 := Scalar.addi c0_i32_320 v564
  v565.toNat
def k0_dev49 : Nat :=
  let c0_i32_329 : BitVec 32 := 0#32
  let c6_i32_327 : BitVec 32 := 6#32
  let c1_i32_328 : BitVec 32 := 1#32
  let v572 : BitVec 32 := Scalar.muli c6_i32_327 c1_i32_328
  let v573 : BitVec 32 := Scalar.addi c0_i32_329 v572
  v573.toNat
def k0_dev50 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_125 : BitVec 32 := 2#32
  let v310 : BitVec 1 := Scalar.cmpi .eq v2 c2_i32_125
  let v311 : BitVec 32 := Scalar.extui v310
  let c0_i32_126 : BitVec 32 := 0#32
  let v312 : BitVec 1 := Scalar.cmpi .ne v311 c0_i32_126
  v312

def k0_dev51 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev52 : Nat :=
  let c0_i32_293 : BitVec 32 := 0#32
  let c1_i32_291 : BitVec 32 := 1#32
  let c1_i32_292 : BitVec 32 := 1#32
  let v540 : BitVec 32 := Scalar.muli c1_i32_291 c1_i32_292
  let v541 : BitVec 32 := Scalar.addi c0_i32_293 v540
  v541.toNat
def k0_dev53 : Nat :=
  let c0_i32_302 : BitVec 32 := 0#32
  let c3_i32_300 : BitVec 32 := 3#32
  let c1_i32_301 : BitVec 32 := 1#32
  let v548 : BitVec 32 := Scalar.muli c3_i32_300 c1_i32_301
  let v549 : BitVec 32 := Scalar.addi c0_i32_302 v548
  v549.toNat
def k0_dev54 : Nat :=
  let c0_i32_311 : BitVec 32 := 0#32
  let c4_i32_309 : BitVec 32 := 4#32
  let c1_i32_310 : BitVec 32 := 1#32
  let v556 : BitVec 32 := Scalar.muli c4_i32_309 c1_i32_310
  let v557 : BitVec 32 := Scalar.addi c0_i32_311 v556
  v557.toNat
def k0_dev55 : Nat :=
  let c0_i32_320 : BitVec 32 := 0#32
  let c5_i32_318 : BitVec 32 := 5#32
  let c1_i32_319 : BitVec 32 := 1#32
  let v564 : BitVec 32 := Scalar.muli c5_i32_318 c1_i32_319
  let v565 : BitVec 32 := Scalar.addi c0_i32_320 v564
  v565.toNat
def k0_dev56 : Nat :=
  let c0_i32_329 : BitVec 32 := 0#32
  let c6_i32_327 : BitVec 32 := 6#32
  let c1_i32_328 : BitVec 32 := 1#32
  let v572 : BitVec 32 := Scalar.muli c6_i32_327 c1_i32_328
  let v573 : BitVec 32 := Scalar.addi c0_i32_329 v572
  v573.toNat
def k0_dev57 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v313 : BitVec 1 := Scalar.cmpi .eq v2 c3_i32_127
  let v314 : BitVec 32 := Scalar.extui v313
  let c0_i32_128 : BitVec 32 := 0#32
  let v315 : BitVec 1 := Scalar.cmpi .ne v314 c0_i32_128
  v315

def k0_dev58 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev59 : Nat :=
  let c0_i32_293 : BitVec 32 := 0#32
  let c1_i32_291 : BitVec 32 := 1#32
  let c1_i32_292 : BitVec 32 := 1#32
  let v540 : BitVec 32 := Scalar.muli c1_i32_291 c1_i32_292
  let v541 : BitVec 32 := Scalar.addi c0_i32_293 v540
  v541.toNat
def k0_dev60 : Nat :=
  let c0_i32_302 : BitVec 32 := 0#32
  let c2_i32_300 : BitVec 32 := 2#32
  let c1_i32_301 : BitVec 32 := 1#32
  let v548 : BitVec 32 := Scalar.muli c2_i32_300 c1_i32_301
  let v549 : BitVec 32 := Scalar.addi c0_i32_302 v548
  v549.toNat
def k0_dev61 : Nat :=
  let c0_i32_311 : BitVec 32 := 0#32
  let c4_i32_309 : BitVec 32 := 4#32
  let c1_i32_310 : BitVec 32 := 1#32
  let v556 : BitVec 32 := Scalar.muli c4_i32_309 c1_i32_310
  let v557 : BitVec 32 := Scalar.addi c0_i32_311 v556
  v557.toNat
def k0_dev62 : Nat :=
  let c0_i32_320 : BitVec 32 := 0#32
  let c5_i32_318 : BitVec 32 := 5#32
  let c1_i32_319 : BitVec 32 := 1#32
  let v564 : BitVec 32 := Scalar.muli c5_i32_318 c1_i32_319
  let v565 : BitVec 32 := Scalar.addi c0_i32_320 v564
  v565.toNat
def k0_dev63 : Nat :=
  let c0_i32_329 : BitVec 32 := 0#32
  let c6_i32_327 : BitVec 32 := 6#32
  let c1_i32_328 : BitVec 32 := 1#32
  let v572 : BitVec 32 := Scalar.muli c6_i32_327 c1_i32_328
  let v573 : BitVec 32 := Scalar.addi c0_i32_329 v572
  v573.toNat
def k0_dev64 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_129 : BitVec 32 := 4#32
  let v316 : BitVec 1 := Scalar.cmpi .eq v2 c4_i32_129
  let v317 : BitVec 32 := Scalar.extui v316
  let c0_i32_130 : BitVec 32 := 0#32
  let v318 : BitVec 1 := Scalar.cmpi .ne v317 c0_i32_130
  v318

def k0_dev65 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev66 : Nat :=
  let c0_i32_293 : BitVec 32 := 0#32
  let c1_i32_291 : BitVec 32 := 1#32
  let c1_i32_292 : BitVec 32 := 1#32
  let v540 : BitVec 32 := Scalar.muli c1_i32_291 c1_i32_292
  let v541 : BitVec 32 := Scalar.addi c0_i32_293 v540
  v541.toNat
def k0_dev67 : Nat :=
  let c0_i32_302 : BitVec 32 := 0#32
  let c2_i32_300 : BitVec 32 := 2#32
  let c1_i32_301 : BitVec 32 := 1#32
  let v548 : BitVec 32 := Scalar.muli c2_i32_300 c1_i32_301
  let v549 : BitVec 32 := Scalar.addi c0_i32_302 v548
  v549.toNat
def k0_dev68 : Nat :=
  let c0_i32_311 : BitVec 32 := 0#32
  let c3_i32_309 : BitVec 32 := 3#32
  let c1_i32_310 : BitVec 32 := 1#32
  let v556 : BitVec 32 := Scalar.muli c3_i32_309 c1_i32_310
  let v557 : BitVec 32 := Scalar.addi c0_i32_311 v556
  v557.toNat
def k0_dev69 : Nat :=
  let c0_i32_320 : BitVec 32 := 0#32
  let c5_i32_318 : BitVec 32 := 5#32
  let c1_i32_319 : BitVec 32 := 1#32
  let v564 : BitVec 32 := Scalar.muli c5_i32_318 c1_i32_319
  let v565 : BitVec 32 := Scalar.addi c0_i32_320 v564
  v565.toNat
def k0_dev70 : Nat :=
  let c0_i32_329 : BitVec 32 := 0#32
  let c6_i32_327 : BitVec 32 := 6#32
  let c1_i32_328 : BitVec 32 := 1#32
  let v572 : BitVec 32 := Scalar.muli c6_i32_327 c1_i32_328
  let v573 : BitVec 32 := Scalar.addi c0_i32_329 v572
  v573.toNat
def k0_dev71 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_131 : BitVec 32 := 5#32
  let v319 : BitVec 1 := Scalar.cmpi .eq v2 c5_i32_131
  let v320 : BitVec 32 := Scalar.extui v319
  let c0_i32_132 : BitVec 32 := 0#32
  let v321 : BitVec 1 := Scalar.cmpi .ne v320 c0_i32_132
  v321

def k0_dev72 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev73 : Nat :=
  let c0_i32_293 : BitVec 32 := 0#32
  let c1_i32_291 : BitVec 32 := 1#32
  let c1_i32_292 : BitVec 32 := 1#32
  let v540 : BitVec 32 := Scalar.muli c1_i32_291 c1_i32_292
  let v541 : BitVec 32 := Scalar.addi c0_i32_293 v540
  v541.toNat
def k0_dev74 : Nat :=
  let c0_i32_302 : BitVec 32 := 0#32
  let c2_i32_300 : BitVec 32 := 2#32
  let c1_i32_301 : BitVec 32 := 1#32
  let v548 : BitVec 32 := Scalar.muli c2_i32_300 c1_i32_301
  let v549 : BitVec 32 := Scalar.addi c0_i32_302 v548
  v549.toNat
def k0_dev75 : Nat :=
  let c0_i32_311 : BitVec 32 := 0#32
  let c3_i32_309 : BitVec 32 := 3#32
  let c1_i32_310 : BitVec 32 := 1#32
  let v556 : BitVec 32 := Scalar.muli c3_i32_309 c1_i32_310
  let v557 : BitVec 32 := Scalar.addi c0_i32_311 v556
  v557.toNat
def k0_dev76 : Nat :=
  let c0_i32_320 : BitVec 32 := 0#32
  let c4_i32_318 : BitVec 32 := 4#32
  let c1_i32_319 : BitVec 32 := 1#32
  let v564 : BitVec 32 := Scalar.muli c4_i32_318 c1_i32_319
  let v565 : BitVec 32 := Scalar.addi c0_i32_320 v564
  v565.toNat
def k0_dev77 : Nat :=
  let c0_i32_329 : BitVec 32 := 0#32
  let c6_i32_327 : BitVec 32 := 6#32
  let c1_i32_328 : BitVec 32 := 1#32
  let v572 : BitVec 32 := Scalar.muli c6_i32_327 c1_i32_328
  let v573 : BitVec 32 := Scalar.addi c0_i32_329 v572
  v573.toNat
def k0_dev78 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_133 : BitVec 32 := 6#32
  let v322 : BitVec 1 := Scalar.cmpi .eq v2 c6_i32_133
  let v323 : BitVec 32 := Scalar.extui v322
  let c0_i32_134 : BitVec 32 := 0#32
  let v324 : BitVec 1 := Scalar.cmpi .ne v323 c0_i32_134
  v324

def k0_dev79 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev80 : Nat :=
  let c0_i32_293 : BitVec 32 := 0#32
  let c1_i32_291 : BitVec 32 := 1#32
  let c1_i32_292 : BitVec 32 := 1#32
  let v540 : BitVec 32 := Scalar.muli c1_i32_291 c1_i32_292
  let v541 : BitVec 32 := Scalar.addi c0_i32_293 v540
  v541.toNat
def k0_dev81 : Nat :=
  let c0_i32_302 : BitVec 32 := 0#32
  let c2_i32_300 : BitVec 32 := 2#32
  let c1_i32_301 : BitVec 32 := 1#32
  let v548 : BitVec 32 := Scalar.muli c2_i32_300 c1_i32_301
  let v549 : BitVec 32 := Scalar.addi c0_i32_302 v548
  v549.toNat
def k0_dev82 : Nat :=
  let c0_i32_311 : BitVec 32 := 0#32
  let c3_i32_309 : BitVec 32 := 3#32
  let c1_i32_310 : BitVec 32 := 1#32
  let v556 : BitVec 32 := Scalar.muli c3_i32_309 c1_i32_310
  let v557 : BitVec 32 := Scalar.addi c0_i32_311 v556
  v557.toNat
def k0_dev83 : Nat :=
  let c0_i32_320 : BitVec 32 := 0#32
  let c4_i32_318 : BitVec 32 := 4#32
  let c1_i32_319 : BitVec 32 := 1#32
  let v564 : BitVec 32 := Scalar.muli c4_i32_318 c1_i32_319
  let v565 : BitVec 32 := Scalar.addi c0_i32_320 v564
  v565.toNat
def k0_dev84 : Nat :=
  let c0_i32_329 : BitVec 32 := 0#32
  let c5_i32_327 : BitVec 32 := 5#32
  let c1_i32_328 : BitVec 32 := 1#32
  let v572 : BitVec 32 := Scalar.muli c5_i32_327 c1_i32_328
  let v573 : BitVec 32 := Scalar.addi c0_i32_329 v572
  v573.toNat
def k0_dev85 : Nat :=
  let c0_i32_338 : BitVec 32 := 0#32
  let c7_i32_336 : BitVec 32 := 7#32
  let c1_i32_337 : BitVec 32 := 1#32
  let v580 : BitVec 32 := Scalar.muli c7_i32_336 c1_i32_337
  let v581 : BitVec 32 := Scalar.addi c0_i32_338 v580
  v581.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_135 : BitVec 32 := 7#32
  let v325 : BitVec 1 := Scalar.cmpi .eq v2 c7_i32_135
  let v326 : BitVec 32 := Scalar.extui v325
  let c0_i32_136 : BitVec 32 := 0#32
  let v327 : BitVec 1 := Scalar.cmpi .ne v326 c0_i32_136
  v327

def k0_dev86 : Nat :=
  let c0_i32_284 : BitVec 32 := 0#32
  let c0_i32_282 : BitVec 32 := 0#32
  let c1_i32_283 : BitVec 32 := 1#32
  let v532 : BitVec 32 := Scalar.muli c0_i32_282 c1_i32_283
  let v533 : BitVec 32 := Scalar.addi c0_i32_284 v532
  v533.toNat
def k0_dev87 : Nat :=
  let c0_i32_293 : BitVec 32 := 0#32
  let c1_i32_291 : BitVec 32 := 1#32
  let c1_i32_292 : BitVec 32 := 1#32
  let v540 : BitVec 32 := Scalar.muli c1_i32_291 c1_i32_292
  let v541 : BitVec 32 := Scalar.addi c0_i32_293 v540
  v541.toNat
def k0_dev88 : Nat :=
  let c0_i32_302 : BitVec 32 := 0#32
  let c2_i32_300 : BitVec 32 := 2#32
  let c1_i32_301 : BitVec 32 := 1#32
  let v548 : BitVec 32 := Scalar.muli c2_i32_300 c1_i32_301
  let v549 : BitVec 32 := Scalar.addi c0_i32_302 v548
  v549.toNat
def k0_dev89 : Nat :=
  let c0_i32_311 : BitVec 32 := 0#32
  let c3_i32_309 : BitVec 32 := 3#32
  let c1_i32_310 : BitVec 32 := 1#32
  let v556 : BitVec 32 := Scalar.muli c3_i32_309 c1_i32_310
  let v557 : BitVec 32 := Scalar.addi c0_i32_311 v556
  v557.toNat
def k0_dev90 : Nat :=
  let c0_i32_320 : BitVec 32 := 0#32
  let c4_i32_318 : BitVec 32 := 4#32
  let c1_i32_319 : BitVec 32 := 1#32
  let v564 : BitVec 32 := Scalar.muli c4_i32_318 c1_i32_319
  let v565 : BitVec 32 := Scalar.addi c0_i32_320 v564
  v565.toNat
def k0_dev91 : Nat :=
  let c0_i32_329 : BitVec 32 := 0#32
  let c5_i32_327 : BitVec 32 := 5#32
  let c1_i32_328 : BitVec 32 := 1#32
  let v572 : BitVec 32 := Scalar.muli c5_i32_327 c1_i32_328
  let v573 : BitVec 32 := Scalar.addi c0_i32_329 v572
  v573.toNat
def k0_dev92 : Nat :=
  let c0_i32_338 : BitVec 32 := 0#32
  let c6_i32_336 : BitVec 32 := 6#32
  let c1_i32_337 : BitVec 32 := 1#32
  let v580 : BitVec 32 := Scalar.muli c6_i32_336 c1_i32_337
  let v581 : BitVec 32 := Scalar.addi c0_i32_338 v580
  v581.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S2x128x2048 : Shape := ⟨3, ![2, 128, 2048]⟩
abbrev S2x128x32x64 : Shape := ⟨4, ![2, 128, 32, 64]⟩
abbrev S128 : Shape := ⟨1, ![128]⟩
abbrev S_ : Shape := ⟨0, ![]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x2048, .bf16⟩
  | 2 => ⟨S2x1024x32x64, .bf16⟩
  | 3 => ⟨S2x1024x32x64, .bf16⟩
  | 4 => ⟨S2048x512, .bf16⟩
  | 5 => ⟨S2x128x2048, .f32⟩
  | 6 => ⟨S2x128x2048, .bf16⟩
  | 7 => ⟨S2x128x32x64, .bf16⟩
  | 8 => ⟨S128, .i32⟩
  | 9 => ⟨S_, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S128, .i32⟩
  | 18 => ⟨S128, .i32⟩
  | 19 => ⟨S_, .i32⟩
  | 20 => ⟨S128, .i32⟩
  | 21 => ⟨S128, .i1⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S1x1024, .i32⟩
  | 48 => ⟨S128x1024, .i32⟩
  | 49 => ⟨S128x1024, .i32⟩
  | 50 => ⟨S128x1024, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x1024, .i32⟩
  | 58 => ⟨S1x1024, .i32⟩
  | 59 => ⟨S_, .i32⟩
  | 60 => ⟨S1x1024, .i32⟩
  | 61 => ⟨S1x1024, .i1⟩
  | 62 => ⟨S_, .i32⟩
  | 63 => ⟨S1x1024, .i32⟩
  | 64 => ⟨S1x1024, .i1⟩
  | 65 => ⟨S_, .i32⟩
  | 66 => ⟨S_, .i1⟩
  | 67 => ⟨S1x1024, .i1⟩
  | 68 => ⟨S1x1024, .i1⟩
  | 69 => ⟨S1x1024, .i1⟩
  | 70 => ⟨S1x1024, .i32⟩
  | 71 => ⟨S1x1024, .i32⟩
  | 72 => ⟨S1x1024, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128x1, .i32⟩
  | 80 => ⟨S128x1, .i32⟩
  | 81 => ⟨S_, .i32⟩
  | 82 => ⟨S128x1, .i32⟩
  | 83 => ⟨S128x1, .i1⟩
  | 84 => ⟨S_, .i32⟩
  | 85 => ⟨S128x1, .i32⟩
  | 86 => ⟨S128x1, .i1⟩
  | 87 => ⟨S_, .i32⟩
  | 88 => ⟨S_, .i1⟩
  | 89 => ⟨S128x1, .i1⟩
  | 90 => ⟨S128x1, .i1⟩
  | 91 => ⟨S128x1, .i1⟩
  | 92 => ⟨S128x1, .i32⟩
  | 93 => ⟨S128x1, .i32⟩
  | 94 => ⟨S128x1, .i32⟩
  | 95 => ⟨S128x1024, .i32⟩
  | 96 => ⟨S128x1024, .i32⟩
  | 97 => ⟨S128x1024, .i1⟩
  | 98 => ⟨S128x1024, .i1⟩
  | 99 => ⟨S2x32x128x1024, .f32⟩
  | 100 => ⟨S2x32x128x1024, .bf16⟩
  | 101 => ⟨S2x32x128x1024, .f32⟩
  | 102 => ⟨S_, .f32⟩
  | 103 => ⟨S2x32x128x1024, .f32⟩
  | 104 => ⟨S2x32x128x1024, .f32⟩
  | 105 => ⟨S1x1x128x1024, .i1⟩
  | 106 => ⟨S_, .f32⟩
  | 107 => ⟨S_, .f32⟩
  | 108 => ⟨S2x32x128x1024, .i1⟩
  | 109 => ⟨S2x32x128x1024, .f32⟩
  | 110 => ⟨S2x32x128x1024, .f32⟩
  | 111 => ⟨S_, .f32⟩
  | 112 => ⟨S2x32x128, .f32⟩
  | 113 => ⟨S2x32x128x1, .f32⟩
  | 114 => ⟨S2x32x128x1024, .f32⟩
  | 115 => ⟨S2x32x128x1024, .f32⟩
  | 116 => ⟨S2x32x128x1024, .f32⟩
  | 117 => ⟨S_, .i1⟩
  | 118 => ⟨S128, .i1⟩
  | 119 => ⟨S1x1x128x1, .i1⟩
  | 120 => ⟨S_, .f32⟩
  | 121 => ⟨S2x32x128, .f32⟩
  | 122 => ⟨S2x32x128x1, .f32⟩
  | 123 => ⟨S_, .f32⟩
  | 124 => ⟨S_, .f32⟩
  | 125 => ⟨S2x32x128x1, .i1⟩
  | 126 => ⟨S2x32x128x1, .f32⟩
  | 127 => ⟨S2x32x128x1, .f32⟩
  | _ => ⟨S2x128x512, .bf16⟩

abbrev hbmTy0_1 (i : Nat) : BufTy := match i % 128 with
  | 0 => ⟨S2x32x128x1024, .f32⟩
  | 1 => ⟨S2x32x128x1024, .f32⟩
  | 2 => ⟨S1x1x128x1, .i1⟩
  | 3 => ⟨S_, .f32⟩
  | 4 => ⟨S_, .f32⟩
  | 5 => ⟨S2x32x128x1024, .i1⟩
  | 6 => ⟨S2x32x128x1024, .f32⟩
  | 7 => ⟨S2x32x128x1024, .f32⟩
  | 8 => ⟨S2x1024x32x64, .f32⟩
  | 9 => ⟨S2x32x64x128, .f32⟩
  | 10 => ⟨S2x128x32x64, .f32⟩
  | 11 => ⟨S2x128x2048, .f32⟩
  | 12 => ⟨S2048x512, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Prog.lean ====
/-
The body of the kernel, written once per step instead of once per device.

The printed body repeats one block of operations for each device that may run it.  Here every repeated block is a
definition over the device or slot it is about (`sigStep`, `kvFill`, `kvSend`, `kvWait`, `pStore`, `pSend`, `pWait`,
`kvDone`, `pDone`), and the printed parts are shown equal to sequences of these blocks, by unfolding both sides.
-/
module

public import proofs.«01_k».proof.Proof.Gen.KernelIdeal
public import proofs.«01_k».proof.Proof.Gen.KernelIdeal.Skeleton
public import Idealize.ShloMosaic.Lib.Pipeline.Regions

@[expose] public section

set_option maxRecDepth 16384

noncomputable section

namespace Cert.KernelIdeal.Proto

open Cert.KernelIdeal Cert.KernelIdeal.Gen
open Idealize.ShloMosaic Idealize.ShloMosaic.TcCoe
open Idealize.SL.Sem

variable {F : FTy → Type} [FloatOps F]

abbrev Pg (F : FTy → Type) : Type → Type 1 := Prog (TpuEff nD τ sig (Elt F) Λ₀ Proc.tc)

/-! ## The buffers -/

abbrev xM : Memref sig .tc .vmem S2x128x512 .bf16 := Memref.whole cc0_stg0_0
abbrev wqM : Memref sig .tc .vmem S512x256 .bf16 := Memref.whole cc0_stg1_0
abbrev kM : Memref sig .tc .vmem S2x128x32x64 .bf16 := Memref.whole cc0_stg2_0
abbrev vM : Memref sig .tc .vmem S2x128x32x64 .bf16 := Memref.whole cc0_stg3_0
abbrev woM : Memref sig .tc .vmem S256x512 .bf16 := Memref.whole cc0_stg4_0
abbrev outM : Memref sig .tc .vmem S2x128x512 .f32 := Memref.whole cc0_stg5_0
abbrev sbM : Memref sig .tc .vmem S8x2x2x128x4x64 .bf16 := Memref.whole cc0_scratch0
abbrev kbM : Memref sig .tc .vmem S4x2x2x128x4x64 .bf16 := Memref.whole cc0_scratch1
abbrev pbM : Memref sig .tc .vmem S2x128x512 .bf16 := Memref.whole cc0_scratch2
abbrev acM : Memref sig .tc .vmem S8x2x128x512 .bf16 := Memref.whole cc0_scratch3
abbrev cxM : Memref sig .tc .vmem S2x128x4x64 .f32 := Memref.whole cc0_scratch4

/-! ## The semaphores -/

abbrev barS : Sem sig := (SemArray.scalar (sig.barrier 0 rfl) : Sems sig S_).sem
theorem inb8 : ∀ (d : Fin 8) (a : Fin 1), (![d.val] : Fin 1 → Nat) a + S1.size a ≤ S8.size a := by decide
theorem inb4 : ∀ (k : Fin 4) (a : Fin 1), (![k.val] : Fin 1 → Nat) a + S1.size a ≤ S4.size a := by decide
/-- the semaphore a device's copy of its keys and values to device `d` completes on, at the sender; -/
abbrev kvSndS (d : Fin 8) : DmaSem sig := ((cc0_scratch5.slice (Rect.unit (s := S8) ![d.val] S1.size (inb8 d))).squeeze S_ squeezes_S1_S_).sem
/-- the one the copy into slot `k` completes on, at the receiver; -/
abbrev kvRcvS (k : Fin 4) : DmaSem sig := ((cc0_scratch6.slice (Rect.unit (s := S4) ![k.val] S1.size (inb4 k))).squeeze S_ squeezes_S1_S_).sem
/-- the one the copy of a partial result to device `d` completes on, at the sender; -/
abbrev pSndS (d : Fin 8) : DmaSem sig := ((cc0_scratch7.slice (Rect.unit (s := S8) ![d.val] S1.size (inb8 d))).squeeze S_ squeezes_S1_S_).sem
/-- and the one the copy of device `s`'s partial result completes on, at the receiver. -/
abbrev pRcvS (s : Fin 8) : DmaSem sig := ((cc0_scratch8.slice (Rect.unit (s := S8) ![s.val] S1.size (inb8 s))).squeeze S_ squeezes_S1_S_).sem

/-! ## The rectangles -/

theorem inbKb : ∀ (k : Fin 4) (j : Fin 2) (a : Fin 6), (![k.val, j.val, 0, 0, 0, 0] : Fin 6 → Nat) a + S1x1x2x128x4x64.size a ≤ S4x2x2x128x4x64.size a := by decide
theorem inbSb : ∀ (d : Fin 8) (j : Fin 2) (a : Fin 6), (![d.val, j.val, 0, 0, 0, 0] : Fin 6 → Nat) a + S1x1x2x128x4x64.size a ≤ S8x2x2x128x4x64.size a := by decide
theorem inbKbSlot : ∀ (k : Fin 4) (a : Fin 6), (![k.val, 0, 0, 0, 0, 0] : Fin 6 → Nat) a + S1x2x2x128x4x64.size a ≤ S4x2x2x128x4x64.size a := by decide
theorem inbSbSlot : ∀ (d : Fin 8) (a : Fin 6), (![d.val, 0, 0, 0, 0, 0] : Fin 6 → Nat) a + S1x2x2x128x4x64.size a ≤ S8x2x2x128x4x64.size a := by decide
theorem inbAc : ∀ (s : Fin 8) (a : Fin 4), (![s.val, 0, 0, 0] : Fin 4 → Nat) a + S1x2x128x512.size a ≤ S8x2x128x512.size a := by decide
theorem inbHead : ∀ (d : Fin 8) (a : Fin 4), (![0, 0, 4 * d.val, 0] : Fin 4 → Nat) a + S2x128x4x64.size a ≤ S2x128x32x64.size a := by decide

abbrev kbR (k : Fin 4) (j : Fin 2) : Rect S4x2x2x128x4x64 := Rect.unit (s := S4x2x2x128x4x64) ![k.val, j.val, 0, 0, 0, 0] S1x1x2x128x4x64.size (inbKb k j)
abbrev sbR (d : Fin 8) (j : Fin 2) : Rect S8x2x2x128x4x64 := Rect.unit (s := S8x2x2x128x4x64) ![d.val, j.val, 0, 0, 0, 0] S1x1x2x128x4x64.size (inbSb d j)
abbrev kbSlotR (k : Fin 4) : Rect S4x2x2x128x4x64 := Rect.unit (s := S4x2x2x128x4x64) ![k.val, 0, 0, 0, 0, 0] S1x2x2x128x4x64.size (inbKbSlot k)
abbrev sbSlotR (d : Fin 8) : Rect S8x2x2x128x4x64 := Rect.unit (s := S8x2x2x128x4x64) ![d.val, 0, 0, 0, 0, 0] S1x2x2x128x4x64.size (inbSbSlot d)
abbrev acR (s : Fin 8) : Rect S8x2x128x512 := Rect.unit (s := S8x2x128x512) ![s.val, 0, 0, 0] S1x2x128x512.size (inbAc s)
/-- the four heads of device `d`, out of the thirty-two. -/
abbrev headR (d : Fin 8) : Rect S2x128x32x64 := Rect.unit (s := S2x128x32x64) ![0, 0, 4 * d.val, 0] S2x128x4x64.size (inbHead d)
abbrev pbR : Rect S2x128x512 := Rect.unit (s := S2x128x512) ![0, 0, 0] S2x128x512.size inb_S2x128x512_S2x128x512_0_0_0

theorem packedKb (k : Fin 4) (j : Fin 2) : (kbR k j).PackedRows (EltTy.packing .bf16) := by
  fin_cases k <;> fin_cases j <;> decide
theorem packedSb (d : Fin 8) (j : Fin 2) : (sbR d j).PackedRows (EltTy.packing .bf16) := by
  fin_cases d <;> fin_cases j <;> decide
theorem packedAc (s : Fin 8) : (acR s).PackedRows (EltTy.packing .bf16) := by fin_cases s <;> decide
theorem wordsKb (k : Fin 4) : (kbSlotR k).WholeWords (EltTy.packing .bf16) := by fin_cases k <;> decide
theorem wordsSb (d : Fin 8) : (sbSlotR d).WholeWords (EltTy.packing .bf16) := by fin_cases d <;> decide
theorem wordsAc (s : Fin 8) : (acR s).WholeWords (EltTy.packing .bf16) := by fin_cases s <;> decide

/-- Slot `k` of the received keys and values, -/
abbrev kbSlot (k : Fin 4) : Memref sig .tc .vmem S2x2x128x4x64 .bf16 :=
  (kbM.slice (kbSlotR k) (fun _ => rfl)).squeeze S2x2x128x4x64 squeezes_S1x2x2x128x4x64_S2x2x128x4x64
/-- slot `d` of the ones to send, -/
abbrev sbSlot (d : Fin 8) : Memref sig .tc .vmem S2x2x128x4x64 .bf16 :=
  (sbM.slice (sbSlotR d) (fun _ => rfl)).squeeze S2x2x128x4x64 squeezes_S1x2x2x128x4x64_S2x2x128x4x64
/-- slot `s` of the partial results. -/
abbrev acSlot (s : Fin 8) : Memref sig .tc .vmem S2x128x512 .bf16 :=
  (acM.slice (acR s) (fun _ => rfl)).squeeze S2x128x512 squeezes_S1x2x128x512_S2x128x512

theorem kbSlot_exact (k : Fin 4) : (kbSlot k).view.WordExact := ((Memref.isWhole_whole _).wordExact_slice rfl _ (wordsKb k)).reshape _ _
theorem sbSlot_exact (d : Fin 8) : (sbSlot d).view.WordExact := ((Memref.isWhole_whole _).wordExact_slice rfl _ (wordsSb d)).reshape _ _
theorem acSlot_exact (s : Fin 8) : (acSlot s).view.WordExact := ((Memref.isWhole_whole _).wordExact_slice rfl _ (wordsAc s)).reshape _ _

/-! ## The steps -/

/-- `f` of each of `l`, in order, then `k`: a step is written over what follows it, as the printed branches are. -/
def each {α : Type} {β : Type} (f : α → Pg F β → Pg F β) (k : Pg F β) : List α → Pg F β
  | [] => k
  | a :: l => f a (each f k l)

abbrev allDev : List (Fin 8) := [0, 1, 2, 3, 4, 5, 6, 7]
/-- every device but one, in order. -/
abbrev others : Fin 8 → List (Fin 8)
  | 0 => [1, 2, 3, 4, 5, 6, 7] | 1 => [0, 2, 3, 4, 5, 6, 7] | 2 => [0, 1, 3, 4, 5, 6, 7] | 3 => [0, 1, 2, 4, 5, 6, 7]
  | 4 => [0, 1, 2, 3, 5, 6, 7] | 5 => [0, 1, 2, 3, 4, 6, 7] | 6 => [0, 1, 2, 3, 4, 5, 7] | 7 => [0, 1, 2, 3, 4, 5, 6]
/-- the device whose keys and values slot `k` holds. -/
abbrev evenDev (k : Fin 4) : Fin 8 := ⟨2 * k.val, by omega⟩

/-- The device's place, as the body computes it; whether it is, or is not, place `n`. -/
abbrev place (d0 : Dev nD) : BitVec 32 := Scalar.remsi (Scalar.divsi (Dev.word d0) 1#32) 8#32
abbrev condNe (v2 : BitVec 32) (n : ℕ) : BitVec 1 := Scalar.cmpi .ne (Scalar.extui (Scalar.cmpi .ne v2 (BitVec.ofNat 32 n)) : BitVec 32) 0#32
abbrev condEq (v2 : BitVec 32) (n : ℕ) : BitVec 1 := Scalar.cmpi .ne (Scalar.extui (Scalar.cmpi .eq v2 (BitVec.ofNat 32 n)) : BitVec 32) 0#32

variable {β : Type}

def sigStep (d0 : Dev nD) (p : Fin 8) (next : Pg F β) : Pg F β :=
  if _h : condNe (place d0) p.val = 1#1 then semSignalWord (p : Dev nD) barS 1#32 >>= fun _ => next else next

def loadHead (src : Memref sig .tc .vmem S2x128x32x64 .bf16) (d : Fin 8) : Pg F (Vec F S2x128x4x64 .bf16) :=
  Prog.lift (.load src (headR d).toLoadRect (View.loadsAt_vmem h_S2x128x4x64))

/-- one half (keys or values) of slot `k`, -/
def putKb (k : Fin 4) (j : Fin 2) (v : FVec F S1x1x2x128x4x64 .bf16) : Pg F PUnit := do
  let _ : Vec F S1x1x2x128x4x64 .bf16 ← Prog.lift (.load kbM (kbR k j).toLoadRect (View.loadsAt_vmem h_S1x1x2x128x4x64))
  Prog.lift (.store kbM (kbR k j) v Finset.univ (View.stores_vmem h_S1x1x2x128x4x64 ((Memref.isWhole_whole _).storeExact_slice rfl _ (packedKb k j)) (fun _ => rfl)) (.inl rfl))
/-- one half of slot `d` of what is sent. -/
def putSb (d : Fin 8) (j : Fin 2) (v : FVec F S1x1x2x128x4x64 .bf16) : Pg F PUnit := do
  let _ : Vec F S1x1x2x128x4x64 .bf16 ← Prog.lift (.load sbM (sbR d j).toLoadRect (View.loadsAt_vmem h_S1x1x2x128x4x64))
  Prog.lift (.store sbM (sbR d j) v Finset.univ (View.stores_vmem h_S1x1x2x128x4x64 ((Memref.isWhole_whole _).storeExact_slice rfl _ (packedSb d j)) (fun _ => rfl)) (.inl rfl))

/-- A device's own keys and values into its slot `k`. -/
def kvFill (k : Fin 4) : Pg F PUnit := do
  let v ← loadHead kM (evenDev k)
  putKb k 0 (k0_pay1 v)
  let w ← loadHead vM (evenDev k)
  putKb k 1 (k0_pay1 w)

/-- The keys and values of device `d`'s heads, collected and sent to its slot `k`. -/
def kvSend (k : Fin 4) (d : Fin 8) : Pg F PUnit := do
  let v ← loadHead kM d
  putSb d 0 (k0_pay1 v)
  let w ← loadHead vM d
  putSb d 1 (k0_pay1 w)
  Prog.lift (.enqueueDma (sbSlot d) (.remote (Dev.tc (d : Dev nD)) (kbSlot k) (.dma (kvSndS d))) (.dma (kvRcvS k))
    (sbSlot_exact d) (kbSlot_exact k) ⟨⟨rfl, Or.inl rfl⟩, trivial⟩)

def kvBranch (v2 : BitVec 32) (k : Fin 4) (next : Pg F β) : Pg F β :=
  if _h : condEq v2 (evenDev k).val = 1#1 then
    kvFill k >>= fun _ => each (fun d next => kvSend k d >>= fun _ => next) next (others (evenDev k))
  else next

def kvWait (v2 : BitVec 32) (k : Fin 4) (next : Pg F β) : Pg F β :=
  if _h : condNe v2 (evenDev k).val = 1#1 then
    Prog.lift (.waitDma2 (kvRcvS k) (sbSlot 0) (kbSlot k) (sbSlot_exact 0) (kbSlot_exact k)) >>= fun _ => next
  else next

def loadPb : Pg F (Vec F S2x128x512 .bf16) := Prog.lift (.load pbM pbR.toLoadRect (View.loadsAt_vmem h_S2x128x512))

/-- The device's own partial result into slot `s`. -/
def pStore (s : Fin 8) : Pg F PUnit := do
  let v ← loadPb
  let _ : Vec F S1x2x128x512 .bf16 ← Prog.lift (.load acM (acR s).toLoadRect (View.loadsAt_vmem h_S1x2x128x512))
  Prog.lift (.store acM (acR s) (k0_pay89 v) Finset.univ (View.stores_vmem h_S1x2x128x512 ((Memref.isWhole_whole _).storeExact_slice rfl _ (packedAc s)) (fun _ => rfl)) (.inl rfl))

/-- The partial result to device `d`'s slot `s`. -/
def pSend (s d : Fin 8) : Pg F PUnit :=
  Prog.lift (.enqueueDma pbM (.remote (Dev.tc (d : Dev nD)) (acSlot s) (.dma (pSndS d))) (.dma (pRcvS s))
    (Memref.isWhole_whole _).wordExact (acSlot_exact s) ⟨⟨rfl, Or.inl rfl⟩, trivial⟩)

def pBranch (v2 : BitVec 32) (s : Fin 8) (next : Pg F β) : Pg F β :=
  if _h : condEq v2 s.val = 1#1 then
    pStore s >>= fun _ => each (fun d next => pSend s d >>= fun _ => next) next (others s)
  else next

def pWait (v2 : BitVec 32) (s : Fin 8) (next : Pg F β) : Pg F β :=
  if _h : condNe v2 s.val = 1#1 then
    Prog.lift (.waitDma2 (pRcvS s) pbM (acSlot s) (Memref.isWhole_whole _).wordExact (acSlot_exact s)) >>= fun _ => next
  else next

/-- Whether the device's place is even and not `n`, as the body computes it. -/
abbrev wordSent (v2 : BitVec 32) (n : ℕ) : BitVec 32 :=
  let v384 : BitVec 1 := Scalar.cmpi .eq 2#32 0#32
  let v385 : BitVec 32 := Scalar.select v384 1#32 2#32
  let v386 : BitVec 32 := Scalar.remsi v2 v385
  let v387 : BitVec 1 := Scalar.cmpi .ne v386 0#32
  let v388 : BitVec 1 := Scalar.cmpi .slt v386 0#32
  let v389 : BitVec 1 := Scalar.cmpi .slt v385 0#32
  let v390 : BitVec 1 := Scalar.xori v388 v389
  let v391 : BitVec 1 := Scalar.andi v390 v387
  let v392 : BitVec 32 := Scalar.addi v386 v385
  let v393 : BitVec 32 := Scalar.select v391 v392 v386
  let v394 : BitVec 1 := Scalar.cmpi .eq v393 0#32
  Scalar.extui (Scalar.andi v394 (Scalar.cmpi .ne v2 (BitVec.ofNat 32 n)))
abbrev condSent (v2 : BitVec 32) (n : ℕ) : BitVec 1 := Scalar.cmpi .ne (wordSent v2 n) 0#32

def kvDoneIf (c : BitVec 1) (d : Fin 8) (next : Pg F β) : Pg F β :=
  if _h : c = 1#1 then
    Prog.lift (.waitDma2 (kvSndS d) (kbSlot 0) (sbSlot d) (kbSlot_exact 0) (sbSlot_exact d)) >>= fun _ => next
  else next
abbrev kvDone (v2 : BitVec 32) (d : Fin 8) (next : Pg F β) : Pg F β := kvDoneIf (condSent v2 d.val) d next

def pDoneIf (c : BitVec 1) (d : Fin 8) (next : Pg F β) : Pg F β :=
  if _h : c = 1#1 then
    Prog.lift (.waitDma2 (pSndS d) (acSlot 0) pbM (acSlot_exact 0) (Memref.isWhole_whole _).wordExact) >>= fun _ => next
  else next
abbrev pDone (v2 : BitVec 32) (d : Fin 8) (next : Pg F β) : Pg F β := pDoneIf (condNe v2 d.val) d next

/-! ## The printed parts are sequences of these steps -/

/-- A printed part, or the whole printed body, over the buffers and semaphores the launch passes it. -/
abbrev atBufs {β : Type 1}
    (f : (arg0 : Memref sig .tc .vmem S2x128x512 .bf16) → arg0.IsWhole → (arg1 : Memref sig .tc .vmem S512x256 .bf16) → arg1.IsWhole
      → (arg2 : Memref sig .tc .vmem S2x128x32x64 .bf16) → arg2.IsWhole → (arg3 : Memref sig .tc .vmem S2x128x32x64 .bf16) → arg3.IsWhole
      → (arg4 : Memref sig .tc .vmem S256x512 .bf16) → arg4.IsWhole → (arg5 : Memref sig .tc .vmem S2x128x512 .f32) → arg5.IsWhole
      → (arg6 : Memref sig .tc .vmem S8x2x2x128x4x64 .bf16) → arg6.IsWhole → (arg7 : Memref sig .tc .vmem S4x2x2x128x4x64 .bf16) → arg7.IsWhole
      → (arg8 : Memref sig .tc .vmem S2x128x512 .bf16) → arg8.IsWhole → (arg9 : Memref sig .tc .vmem S8x2x128x512 .bf16) → arg9.IsWhole
      → (arg10 : Memref sig .tc .vmem S2x128x4x64 .f32) → arg10.IsWhole → DmaSems sig S8 → DmaSems sig S4 → DmaSems sig S8 → DmaSems sig S8 → β) : β :=
  f xM (Memref.isWhole_whole _) wqM (Memref.isWhole_whole _) kM (Memref.isWhole_whole _) vM (Memref.isWhole_whole _) woM (Memref.isWhole_whole _) outM (Memref.isWhole_whole _)
    sbM (Memref.isWhole_whole _) kbM (Memref.isWhole_whole _) pbM (Memref.isWhole_whole _) acM (Memref.isWhole_whole _) cxM (Memref.isWhole_whole _) cc0_scratch5 cc0_scratch6 cc0_scratch7 cc0_scratch8

def part45 : Pg F (Σ' (d0 : Dev nD) (v2 : BitVec 32), BitVec 1) := do
  let d0 ← Prog.lift .deviceId
  each (sigStep d0) (do
    semWaitWord barS 7#32
    pure ⟨d0, place d0, Scalar.cmpi .eq (place d0) 0#32⟩) allDev
theorem part45_eq : atBufs (k0_part45 (F := F)) = part45 := by chain_rfl

def loadX : Pg F (Vec F S2x128x512 .bf16) := Prog.lift (.load xM pbR.toLoadRect (View.loadsAt_vmem h_S2x128x512))
def loadWq : Pg F (Vec F S512x256 .bf16) :=
  Prog.lift (.load wqM (Rect.unit (s := S512x256) ![0, 0] S512x256.size inb_S512x256_S512x256_0_0).toLoadRect (View.loadsAt_vmem h_S512x256))

abbrev allSlot : List (Fin 4) := [0, 1, 2, 3]
def part46 (d0 : Dev nD) (v2 : BitVec 32) : Pg F (FVec F S2x128x4x64 .bf16) :=
  each (kvBranch (place d0)) (do
    let x ← loadX
    let w ← loadWq
    each (kvWait v2) (pure (k0_pay101 x w)) allSlot) allSlot
theorem part46_eq (d0 : Dev nD) (v2 : BitVec 32) (v28 : BitVec 1) : atBufs (k0_part46 (F := F)) d0 v2 v28 = part46 d0 v2 := by chain_rfl

/-! ### The attention and the partial result -/

theorem inbKbHalf : ∀ (j : Fin 2) (a : Fin 6), (![0, j.val, 0, 0, 0, 0] : Fin 6 → Nat) a + S4x1x2x128x4x64.size a ≤ S4x2x2x128x4x64.size a := by decide
theorem inbCx : ∀ (i : Fin 2 × Fin 4) (a : Fin 4), (![0, 64 * i.1.val, i.2.val, 0] : Fin 4 → Nat) a + S2x64x1x64.size a ≤ S2x128x4x64.size a := by decide
/-- The keys (`j = 0`) or the values (`j = 1`) of all four slots, -/
abbrev kbHalfR (j : Fin 2) : Rect S4x2x2x128x4x64 := Rect.unit (s := S4x2x2x128x4x64) ![0, j.val, 0, 0, 0, 0] S4x1x2x128x4x64.size (inbKbHalf j)
/-- the context's rows of one block of sixty-four queries and one head. -/
abbrev cxR (i : Fin 2 × Fin 4) : Rect S2x128x4x64 := Rect.unit (s := S2x128x4x64) ![0, 64 * i.1.val, i.2.val, 0] S2x64x1x64.size (inbCx i)
abbrev cxWholeR : Rect S2x128x4x64 := Rect.unit (s := S2x128x4x64) ![0, 0, 0, 0] S2x128x4x64.size inb_S2x128x4x64_S2x128x4x64_0_0_0_0
abbrev woR : Rect S256x512 := Rect.unit (s := S256x512) ![0, 0] S256x512.size inb_S256x512_S256x512_0_0

def loadKb (j : Fin 2) : Pg F (Vec F S4x1x2x128x4x64 .bf16) :=
  Prog.lift (.load kbM (kbHalfR j).toLoadRect (View.loadsAt_vmem h_S4x1x2x128x4x64))

/-- The context's rows of one query block and one head, of the queries `q`, the keys `kv` and the values `vv`. -/
def ctxVal (q : FVec F S2x128x4x64 .bf16) (kv vv : Vec F S4x1x2x128x4x64 .bf16) : Fin 2 × Fin 4 → FVec F S2x64x1x64 .f32
  | (0, 0) => k0_pay108 (k0_pay107 q kv vv)
  | (0, 1) => k0_pay109 (k0_pay104 q) (k0_pay105 kv) (k0_pay106 vv)
  | (0, 2) => k0_pay113 (k0_pay110 (k0_pay106 vv)) (k0_pay111 (k0_pay104 q) (k0_pay105 kv)) (k0_pay112 (k0_pay104 q) (k0_pay105 kv))
  | (0, 3) => k0_pay114 (k0_pay104 q) (k0_pay105 kv) (k0_pay106 vv)
  | (1, 0) => k0_pay120 (k0_pay103 vv) (k0_pay115 q) (k0_pay116 (k0_pay102 kv)) (k0_pay117 (k0_pay103 vv)) (k0_pay118 (k0_pay103 vv))
  | (1, 1) => k0_pay124 (k0_pay121 (k0_pay103 vv) (k0_pay117 (k0_pay103 vv)) (k0_pay118 (k0_pay103 vv)))
      (k0_pay122 (k0_pay115 q) (k0_pay116 (k0_pay102 kv))) (k0_pay123 (k0_pay115 q) (k0_pay116 (k0_pay102 kv)))
  | (1, 2) => k0_pay125 (k0_pay115 q) (k0_pay116 (k0_pay102 kv)) (k0_pay119 (k0_pay103 vv) (k0_pay117 (k0_pay103 vv)) (k0_pay118 (k0_pay103 vv)))
  | (1, 3) => k0_pay129 (k0_pay126 (k0_pay119 (k0_pay103 vv) (k0_pay117 (k0_pay103 vv)) (k0_pay118 (k0_pay103 vv))))
      (k0_pay127 (k0_pay115 q) (k0_pay116 (k0_pay102 kv))) (k0_pay128 (k0_pay115 q) (k0_pay116 (k0_pay102 kv)))

def putCx (v : Fin 2 × Fin 4 → FVec F S2x64x1x64 .f32) (i : Fin 2 × Fin 4) (next : Pg F β) : Pg F β := do
  let _ : Vec F S2x64x1x64 .f32 ← Prog.lift (.load cxM (cxR i).toLoadRect (View.loadsAt_vmem h_S2x64x1x64))
  Prog.lift (.store cxM (cxR i) (v i) Finset.univ (View.stores_vmem_bits_univ h_S2x64x1x64 rfl) (.inl rfl))
  next

abbrev allCx : List (Fin 2 × Fin 4) := [(0, 0), (0, 1), (0, 2), (0, 3), (1, 0), (1, 1), (1, 2), (1, 3)]

/-- The partial result of the context and the device's rows of the output weights. -/
def partial' (next : Pg F β) : Pg F β := do
  let cx : Vec F S2x128x4x64 .f32 ← Prog.lift (.load cxM cxWholeR.toLoadRect (View.loadsAt_vmem h_S2x128x4x64))
  let wo : Vec F S256x512 .bf16 ← Prog.lift (.load woM woR.toLoadRect (View.loadsAt_vmem h_S256x512))
  let _ ← loadPb
  Prog.lift (.store pbM pbR (k0_pay130 cx wo) Finset.univ
    (View.stores_vmem h_S2x128x512 ((Memref.isWhole_whole _).storeExact_slice rfl _ packedbf16_S2x128x512_S2x128x512_0_0_0) (fun _ => rfl)) (.inl rfl))
  next

def attn (q : FVec F S2x128x4x64 .bf16) (next : Pg F β) : Pg F β := do
  let kv ← loadKb 0
  let vv ← loadKb 1
  each (putCx (ctxVal q kv vv)) (partial' next) allCx

def loadAc (s : Fin 8) : Pg F (Vec F S1x2x128x512 .bf16) :=
  Prog.lift (.load acM (acR s).toLoadRect (View.loadsAt_vmem h_S1x2x128x512))

/-- The sum of the eight partial results into the result. -/
def sumUp (next : Pg F β) : Pg F β := do
  let a0 ← loadAc 0
  let a1 ← loadAc 1
  let a2 ← loadAc 2
  let a3 ← loadAc 3
  let a4 ← loadAc 4
  let a5 ← loadAc 5
  let a6 ← loadAc 6
  let a7 ← loadAc 7
  let _ : Vec F S2x128x512 .f32 ← Prog.lift (.load outM pbR.toLoadRect (View.loadsAt_vmem h_S2x128x512))
  Prog.lift (.store outM pbR (k0_pay132 (k0_pay131 a0 a1 a2 a3) a4 a5 a6 a7) Finset.univ (View.stores_vmem_bits_univ h_S2x128x512 rfl) (.inl rfl))
  next

/-! ### The rest of the parts, and the whole body -/

def tail0 (v2 : BitVec 32) : Pg F PUnit := each (fun d next => kvDone v2 d (pDone v2 d next)) (pure ⟨⟩) allDev
def bodyAfter (v2 : BitVec 32) : Pg F PUnit :=
  each (kvBranch v2) (do
    let x ← loadX
    let w ← loadWq
    each (kvWait v2) (attn (k0_pay101 x w) (each (pBranch v2) (each (pWait v2) (sumUp (tail0 v2)) allDev) allDev)) allSlot) allSlot
/-- The whole body. -/
def bodyP : Pg F PUnit := do
  let d0 ← Prog.lift .deviceId
  each (sigStep d0) (do
    semWaitWord barS 7#32
    bodyAfter (place d0)) allDev

/-- The whole body, with the binds at the places the printed parts end. -/
def bodyQ : Pg F PUnit := do
  let ⟨d0, v2, _⟩ : Σ' (d0 : Dev nD) (v2 : BitVec 32), BitVec 1 ← part45
  let q ← part46 d0 v2
  attn q (each (pBranch (place d0)) (pure PUnit.unit) [0, 1])
  each (pBranch (place d0)) (each (pWait v2) (pure PUnit.unit) [0, 1, 2, 3]) [2, 3, 4, 5, 6, 7]
  let ⟨a, a4⟩ : Σ' (v366 : FVec F S2x128x512 .f32), Vec F S1x2x128x512 .bf16 ← each (pWait v2) (do
    let a0 ← loadAc 0
    let a1 ← loadAc 1
    let a2 ← loadAc 2
    let a3 ← loadAc 3
    let a4 ← loadAc 4
    pure ⟨k0_pay131 a0 a1 a2 a3, a4⟩) [4, 5, 6, 7]
  let v400 : BitVec 32 ← (do
    let a5 ← loadAc 5
    let a6 ← loadAc 6
    let a7 ← loadAc 7
    let _ : Vec F S2x128x512 .f32 ← Prog.lift (.load outM pbR.toLoadRect (View.loadsAt_vmem h_S2x128x512))
    Prog.lift (.store outM pbR (k0_pay132 a a4 a5 a6 a7) Finset.univ (View.stores_vmem_bits_univ h_S2x128x512 rfl) (.inl rfl))
    kvDone v2 0 (pure (Scalar.extui (Scalar.cmpi .ne v2 0#32))))
  let two : BitVec 32 ← pDoneIf (Scalar.cmpi .ne v400 0#32) 0 (kvDone v2 1 (pDone v2 1 (kvDone v2 2 (pure 2#32))))
  let v470 : BitVec 1 ← pDoneIf (Scalar.cmpi .ne (Scalar.extui (Scalar.cmpi .ne v2 two) : BitVec 32) 0#32) 2 (kvDone v2 3 (pDone v2 3 (pure (condSent v2 4))))
  let v505 : BitVec 32 ← kvDoneIf v470 4 (pDone v2 4 (kvDone v2 5 (pDone v2 5 (pure (wordSent v2 6)))))
  kvDoneIf (Scalar.cmpi .ne v505 0#32) 6 (pDone v2 6 (kvDone v2 7 (pDone v2 7 (pure PUnit.unit))))

theorem bodyQ_eq : atBufs (cc0_body (F := F)) = bodyQ := by chain_rfl

/-! ### A bind after a step is a bind after what follows it -/

section Bind
variable {γ : Type} (g : β → Pg F γ)

theorem each_bind {α : Type} (f : α → Pg F β → Pg F β) (f' : α → Pg F γ → Pg F γ) (hf : ∀ a k, f a k >>= g = f' a (k >>= g)) (k : Pg F β) :
    ∀ l : List α, each f k l >>= g = each f' (k >>= g) l
  | [] => rfl
  | a :: l => (hf a _).trans (congrArg (f' a) (each_bind f f' hf k l))

theorem dite_bind {c : Prop} [Decidable c] (a : c → Pg F β) (b : ¬ c → Pg F β) :
    (if h : c then a h else b h) >>= g = if h : c then a h >>= g else b h >>= g := by
  split <;> rfl

theorem sigStep_bind (d0 : Dev nD) (p : Fin 8) (k : Pg F β) : sigStep d0 p k >>= g = sigStep d0 p (k >>= g) := by
  unfold sigStep; rw [dite_bind]; rfl
theorem kvWait_bind (v2 : BitVec 32) (k : Fin 4) (n : Pg F β) : kvWait v2 k n >>= g = kvWait v2 k (n >>= g) := by
  unfold kvWait; rw [dite_bind]; rfl
theorem pWait_bind (v2 : BitVec 32) (k : Fin 8) (n : Pg F β) : pWait v2 k n >>= g = pWait v2 k (n >>= g) := by
  unfold pWait; rw [dite_bind]; rfl
theorem kvDone_bind (c : BitVec 1) (k : Fin 8) (n : Pg F β) : kvDoneIf c k n >>= g = kvDoneIf c k (n >>= g) := by
  unfold kvDoneIf; rw [dite_bind]; rfl
theorem pDone_bind (c : BitVec 1) (k : Fin 8) (n : Pg F β) : pDoneIf c k n >>= g = pDoneIf c k (n >>= g) := by
  unfold pDoneIf; rw [dite_bind]; rfl
theorem kvBranch_bind (v2 : BitVec 32) (k : Fin 4) (n : Pg F β) : kvBranch v2 k n >>= g = kvBranch v2 k (n >>= g) := by
  unfold kvBranch; rw [dite_bind]
  refine dite_congr rfl (fun _ => ?_) fun _ => rfl
  rw [Prog.bind_assoc]
  exact congrArg _ (funext fun _ => each_bind g _ _ (fun a k => Prog.bind_assoc _ _ _) _ _)
theorem pBranch_bind (v2 : BitVec 32) (k : Fin 8) (n : Pg F β) : pBranch v2 k n >>= g = pBranch v2 k (n >>= g) := by
  unfold pBranch; rw [dite_bind]
  refine dite_congr rfl (fun _ => ?_) fun _ => rfl
  rw [Prog.bind_assoc]
  exact congrArg _ (funext fun _ => each_bind g _ _ (fun a k => Prog.bind_assoc _ _ _) _ _)

theorem attn_bind (q : FVec F S2x128x4x64 .bf16) (n : Pg F β) : attn q n >>= g = attn q (n >>= g) := rfl

end Bind

theorem bodyQ_bodyP : bodyQ (F := F) = bodyP := by
  unfold bodyQ bodyP part45 part46 bodyAfter
  simp only [Prog.bind_assoc, each_bind _ _ _ (sigStep_bind _ _), each_bind _ _ _ (kvBranch_bind _ _), each_bind _ _ _ (kvWait_bind _ _),
    each_bind _ _ _ (pBranch_bind _ _), each_bind _ _ _ (pWait_bind _ _), attn_bind, kvDone_bind, pDone_bind, pure_bind]
  rfl

/-- The printed body over the launch's buffers is the sequence of steps. -/
theorem body_eq : atBufs (cc0_body (F := F)) = bodyP := bodyQ_eq.trans bodyQ_bodyP

end Cert.KernelIdeal.Proto

end
-- ==== Proof.Slots.lean ====
/-
The slots of the buffers: which elements slot `k` of a buffer is, where the copies and the stores put their elements, and
what a buffer's slot holds after them, as one contents function over the whole buffer.
-/
module

public import proofs.«01_k».proof.Proof.Prog
public import Idealize.ShloMosaic.Lib.ValueIdxRank6
public import Idealize.ShloMosaic.Lib.ValueLayout

@[expose] public section

set_option maxRecDepth 16384

noncomputable section

namespace Cert.KernelIdeal.Proto

open Cert.KernelIdeal Cert.KernelIdeal.Gen
open Idealize.ShloMosaic Idealize.ShloMosaic.TcCoe
open Idealize.ShloMosaic.ValueIdx

variable {F : FTy → Type} [FloatOps F]

/-! ## The elements of a slot -/

def kbSet (k : Fin 4) : Finset S4x2x2x128x4x64.Idx := Finset.univ.filter fun i => (i 0).val = k.val
def sbSet (d : Fin 8) : Finset S8x2x2x128x4x64.Idx := Finset.univ.filter fun i => (i 0).val = d.val
def acSet (s : Fin 8) : Finset S8x2x128x512.Idx := Finset.univ.filter fun i => (i 0).val = s.val

theorem mem_kbSet {k : Fin 4} {i : S4x2x2x128x4x64.Idx} : i ∈ kbSet k ↔ (i 0).val = k.val := by simp [kbSet]
theorem mem_sbSet {d : Fin 8} {i : S8x2x2x128x4x64.Idx} : i ∈ sbSet d ↔ (i 0).val = d.val := by simp [sbSet]
theorem mem_acSet {s : Fin 8} {i : S8x2x128x512.Idx} : i ∈ acSet s ↔ (i 0).val = s.val := by simp [acSet]

/-! ## Where a slot's elements are -/

theorem kbSlot_emb (k : Fin 4) (x : S2x2x128x4x64.Idx) : (kbSlot k).view.emb x = ix6 k (x 0) (x 1) (x 2) (x 3) (x 4) := by
  show (kbSlotR k).emb (Shape.reshapeEquiv _ x) = _
  rw [show Shape.reshapeEquiv _ x = _ from Shape.reshapeEquiv_cons_one (d := ![2, 2, 128, 4, 64]) squeezes_S1x2x2x128x4x64_S2x2x128x4x64.numel_eq x]
  funext a
  refine Fin.ext ?_
  rw [Rect.emb_apply]
  fin_cases a <;> simp <;> rfl
theorem sbSlot_emb (d : Fin 8) (x : S2x2x128x4x64.Idx) : (sbSlot d).view.emb x = ix6 d (x 0) (x 1) (x 2) (x 3) (x 4) := by
  show (sbSlotR d).emb (Shape.reshapeEquiv _ x) = _
  rw [show Shape.reshapeEquiv _ x = _ from Shape.reshapeEquiv_cons_one (d := ![2, 2, 128, 4, 64]) squeezes_S1x2x2x128x4x64_S2x2x128x4x64.numel_eq x]
  funext a
  refine Fin.ext ?_
  rw [Rect.emb_apply]
  fin_cases a <;> simp <;> rfl
theorem acSlot_emb (s : Fin 8) (x : S2x128x512.Idx) : (acSlot s).view.emb x = ix4 s (x 0) (x 1) (x 2) := by
  show (acR s).emb (Shape.reshapeEquiv _ x) = _
  rw [show Shape.reshapeEquiv _ x = _ from Shape.reshapeEquiv_cons_one (d := ![2, 128, 512]) squeezes_S1x2x128x512_S2x128x512.numel_eq x]
  funext a
  refine Fin.ext ?_
  rw [Rect.emb_apply]
  fin_cases a <;> simp <;> rfl

theorem kbSlot_set (k : Fin 4) : (kbSlot k).view.set = kbSet k := by
  ext i
  constructor
  · intro h
    obtain ⟨x, -, rfl⟩ := Finset.mem_map.mp h
    rw [kbSlot_emb]
    exact mem_kbSet.mpr rfl
  · intro h
    refine Finset.mem_map.mpr ⟨ix5 (i 1) (i 2) (i 3) (i 4) (i 5), Finset.mem_univ _, ?_⟩
    rw [kbSlot_emb]
    have e : i 0 = k := Fin.ext (mem_kbSet.mp h)
    funext a
    fin_cases a <;> first | exact e.symm | rfl
theorem sbSlot_set (d : Fin 8) : (sbSlot d).view.set = sbSet d := by
  ext i
  constructor
  · intro h
    obtain ⟨x, -, rfl⟩ := Finset.mem_map.mp h
    rw [sbSlot_emb]
    exact mem_sbSet.mpr rfl
  · intro h
    refine Finset.mem_map.mpr ⟨ix5 (i 1) (i 2) (i 3) (i 4) (i 5), Finset.mem_univ _, ?_⟩
    rw [sbSlot_emb]
    have e : i 0 = d := Fin.ext (mem_sbSet.mp h)
    funext a
    fin_cases a <;> first | exact e.symm | rfl
theorem acSlot_set (s : Fin 8) : (acSlot s).view.set = acSet s := by
  ext i
  constructor
  · intro h
    obtain ⟨x, -, rfl⟩ := Finset.mem_map.mp h
    rw [acSlot_emb]
    exact mem_acSet.mpr rfl
  · intro h
    refine Finset.mem_map.mpr ⟨ix3 (i 1) (i 2) (i 3), Finset.mem_univ _, ?_⟩
    rw [acSlot_emb]
    have e : i 0 = s := Fin.ext (mem_acSet.mp h)
    funext a
    fin_cases a <;> first | exact e.symm | rfl

/-! ## What the buffers hold -/

/-- The keys and the values of device `d`'s heads, of one device's blocks of keys and values. -/
def kvOf (K V : S2x128x32x64.Idx → Elt F .bf16) (d : Fin 8) (j : Fin 2) (b : Fin 2) (s : Fin 128) (h : Fin 4) (e : Fin 64) : Elt F .bf16 :=
  (if j = 0 then K else V) (ix4 b s ⟨4 * d.val + h.val, by omega⟩ e)

theorem kvOf_key (K V : S2x128x32x64.Idx → Elt F .bf16) (d : Fin 8) (b : Fin 2) (s : Fin 128) (h : Fin 4) (e : Fin 64) :
    kvOf K V d 0 b s h e = K (ix4 b s ⟨4 * d.val + h.val, by omega⟩ e) := by
  unfold kvOf; rw [if_pos rfl]
theorem kvOf_val (K V : S2x128x32x64.Idx → Elt F .bf16) (d : Fin 8) (b : Fin 2) (s : Fin 128) (h : Fin 4) (e : Fin 64) :
    kvOf K V d 1 b s h e = V (ix4 b s ⟨4 * d.val + h.val, by omega⟩ e) := by
  unfold kvOf; rw [if_neg (by decide)]

/-- What a device holding `K` and `V` collects, slot `d` for device `d`; -/
def sendAll (K V : S2x128x32x64.Idx → Elt F .bf16) : S8x2x2x128x4x64.Idx → Elt F .bf16 :=
  fun i => kvOf K V (i 0) (i 1) (i 2) (i 3) (i 4) (i 5)
/-- and what device `d` has received in the end, slot `k` from device `2k`. -/
def kvAll (K V : Fin 8 → S2x128x32x64.Idx → Elt F .bf16) (d : Fin 8) : S4x2x2x128x4x64.Idx → Elt F .bf16 :=
  fun i => kvOf (K (evenDev (i 0))) (V (evenDev (i 0))) d (i 1) (i 2) (i 3) (i 4) (i 5)
theorem sendAll_ix (K V : S2x128x32x64.Idx → Elt F .bf16) (d : Fin 8) (j : Fin 2) (b : Fin 2) (s : Fin 128) (h : Fin 4) (e : Fin 64) :
    sendAll K V (ix6 d j b s h e) = kvOf K V d j b s h e := rfl
theorem kvAll_ix (K V : Fin 8 → S2x128x32x64.Idx → Elt F .bf16) (d : Fin 8) (k : Fin 4) (j : Fin 2) (b : Fin 2) (s : Fin 128) (h : Fin 4) (e : Fin 64) :
    kvAll K V d (ix6 k j b s h e) = kvOf (K (evenDev k)) (V (evenDev k)) d j b s h e := rfl
/-- The partial results, slot `s` from device `s`. -/
def accAll (P : Fin 8 → S2x128x512.Idx → Elt F .bf16) : S8x2x128x512.Idx → Elt F .bf16 :=
  fun i => P (i 0) (ix3 (i 1) (i 2) (i 3))

/-! ## What the copies leave -/

theorem land_kb (K V : Fin 8 → S2x128x32x64.Idx → Elt F .bf16) (k : Fin 4) (d : Fin 8) (fd : S4x2x2x128x4x64.Idx → Elt F .bf16) :
    ∀ i ∈ kbSet k, (kbSlot k).view.write (Elt F) fd ((sbSlot d).view.read (Elt F) (sendAll (K (evenDev k)) (V (evenDev k)))) Finset.univ i = kvAll K V d i := by
  intro i hi
  rw [← kbSlot_set] at hi
  obtain ⟨x, -, rfl⟩ := Finset.mem_map.mp hi
  rw [View.write_emb]
  simp only [Finset.mem_univ, if_true]
  rw [View.read_apply, sbSlot_emb, kbSlot_emb]
  rfl
theorem land_ac (P : Fin 8 → S2x128x512.Idx → Elt F .bf16) (s : Fin 8) (fd : S8x2x128x512.Idx → Elt F .bf16) :
    ∀ i ∈ acSet s, (acSlot s).view.write (Elt F) fd (pbM.view.read (Elt F) (P s)) Finset.univ i = accAll P i := by
  intro i hi
  rw [← acSlot_set] at hi
  obtain ⟨x, -, rfl⟩ := Finset.mem_map.mp hi
  rw [View.write_emb]
  simp only [Finset.mem_univ, if_true]
  rw [View.read_apply, acSlot_emb]
  show P s x = P s (ix3 (x 0) (x 1) (x 2))
  congr 1
  funext a
  fin_cases a <;> rfl

/-! ## What the stores leave -/

theorem fin2 : ∀ j : Fin 2, j = 0 ∨ j = 1 := by decide
theorem pay_half (v : S2x128x4x64.Idx → Elt F .bf16) (b : Fin 2) (s : Fin 128) (h : Fin 4) (e : Fin 64) :
    k0_pay1 v (ix6 0 0 b s h e) = v (ix4 b s h e) := by
  unfold k0_pay1
  refine (shapeCast_apply _ _ (ix6 0 0 b s h e) (ix4 b s h e) ?_).trans (shapeCast_apply _ _ _ _ rfl)
  rw [Shape.rowMajor_val_six, Shape.rowMajor_val_four]
  show ((b.val * 128 + s.val) * 4 + h.val) * 64 + e.val = ((((0 * 1 + 0) * 2 + b.val) * 128 + s.val) * 4 + h.val) * 64 + e.val
  omega

theorem half_kb_emb (k : Fin 4) (j : Fin 2) (b : Fin 2) (s : Fin 128) (h : Fin 4) (e : Fin 64) :
    (kbM.access (kbR k j)).emb (ix6 0 0 b s h e) = ix6 k j b s h e := by
  show (kbR k j).emb _ = _
  funext a
  refine Fin.ext ?_
  rw [Rect.emb_apply]
  fin_cases a <;> simp <;> rfl
theorem half_sb_emb (k : Fin 8) (j : Fin 2) (b : Fin 2) (s : Fin 128) (h : Fin 4) (e : Fin 64) :
    (sbM.access (sbR k j)).emb (ix6 0 0 b s h e) = ix6 k j b s h e := by
  show (sbR k j).emb _ = _
  funext a
  refine Fin.ext ?_
  rw [Rect.emb_apply]
  fin_cases a <;> simp <;> rfl

theorem kb_ix {k : Fin 4} {i : S4x2x2x128x4x64.Idx} (hi : i ∈ kbSet k) :
    ∃ (j : Fin 2) (b : Fin 2) (s : Fin 128) (h : Fin 4) (e : Fin 64), i = ix6 k j b s h e := by
  obtain rfl : i 0 = k := Fin.ext (mem_kbSet.mp hi)
  exact ⟨i 1, i 2, i 3, i 4, i 5, eq_ix6 i⟩
theorem half_kb_sub (k : Fin 4) (j : Fin 2) : (kbM.access (kbR k j)).setOn Finset.univ ⊆ kbSet k := by
  intro i hi
  obtain ⟨x, -, rfl⟩ := Finset.mem_map.mp hi
  refine mem_kbSet.mpr ?_
  show (((kbR k j).emb x) 0).val = _
  have : (x 0).val < 1 := (x 0).isLt
  rw [Rect.emb_apply]
  show k.val + 1 * (x 0).val = k.val
  omega
theorem sb_ix {d : Fin 8} {i : S8x2x2x128x4x64.Idx} (hi : i ∈ sbSet d) :
    ∃ (j : Fin 2) (b : Fin 2) (s : Fin 128) (h : Fin 4) (e : Fin 64), i = ix6 d j b s h e := by
  obtain rfl : i 0 = d := Fin.ext (mem_sbSet.mp hi)
  exact ⟨i 1, i 2, i 3, i 4, i 5, eq_ix6 i⟩
theorem half_sb_sub (k : Fin 8) (j : Fin 2) : (sbM.access (sbR k j)).setOn Finset.univ ⊆ sbSet k := by
  intro i hi
  obtain ⟨x, -, rfl⟩ := Finset.mem_map.mp hi
  refine mem_sbSet.mpr ?_
  show (((sbR k j).emb x) 0).val = _
  have : (x 0).val < 1 := (x 0).isLt
  rw [Rect.emb_apply]
  show k.val + 1 * (x 0).val = k.val
  omega
theorem half_kb_not (k : Fin 4) (b : Fin 2) (s : Fin 128) (h : Fin 4) (e : Fin 64) :
    (ix6 k (0 : Fin 2) b s h e : S4x2x2x128x4x64.Idx) ∉ (kbM.access (kbR k 1)).setOn Finset.univ := by
  intro hi
  obtain ⟨x, -, hx⟩ := Finset.mem_map.mp hi
  have h1 : (((kbR k 1).emb x) 1).val = 0 := congrArg (fun i : S4x2x2x128x4x64.Idx => (i 1).val) hx
  rw [Rect.emb_apply] at h1
  have h1 : 1 + 1 * (x 1).val = 0 := h1
  omega
theorem half_sb_not (k : Fin 8) (b : Fin 2) (s : Fin 128) (h : Fin 4) (e : Fin 64) :
    (ix6 k (0 : Fin 2) b s h e : S8x2x2x128x4x64.Idx) ∉ (sbM.access (sbR k 1)).setOn Finset.univ := by
  intro hi
  obtain ⟨x, -, hx⟩ := Finset.mem_map.mp hi
  have h1 : (((sbR k 1).emb x) 1).val = 0 := congrArg (fun i : S8x2x2x128x4x64.Idx => (i 1).val) hx
  rw [Rect.emb_apply] at h1
  have h1 : 1 + 1 * (x 1).val = 0 := h1
  omega

/-- Four heads of a block, as a load reads them. -/
def heads (K : S2x128x32x64.Idx → Elt F .bf16) (d : Fin 8) : S2x128x4x64.Idx → Elt F .bf16 := fun x => K ((headR d).idx x)
theorem heads_apply (K : S2x128x32x64.Idx → Elt F .bf16) (d : Fin 8) (b : Fin 2) (s : Fin 128) (h : Fin 4) (e : Fin 64) :
    heads K d (ix4 b s h e) = K (ix4 b s ⟨4 * d.val + h.val, by omega⟩ e) := by
  unfold heads
  congr 1
  funext a
  refine Fin.ext ?_
  rw [LoadRect.idx_apply]
  fin_cases a <;> simp <;> rfl

theorem put_kb (K V : Fin 8 → S2x128x32x64.Idx → Elt F .bf16) (k : Fin 4) (f : S4x2x2x128x4x64.Idx → Elt F .bf16) (d : Fin 8) :
    ∀ i ∈ kbSet k, (kbM.access (kbR k 1)).write (Elt F) ((kbM.access (kbR k 0)).write (Elt F) f (k0_pay1 (heads (K (evenDev k)) d)) Finset.univ)
      (k0_pay1 (heads (V (evenDev k)) d)) Finset.univ i = kvAll K V d i := by
  intro i hi
  obtain ⟨j, b, s, h, e, rfl⟩ := kb_ix hi
  have hj := fin2 j
  rcases hj with rfl | rfl
  · rw [View.write_of_not_mem _ _ _ (half_kb_not k b s h e), ← half_kb_emb k 0 b s h e, View.write_emb_of_mem _ _ (Finset.mem_univ _), half_kb_emb k 0 b s h e]
    refine Eq.trans ?_ (kvAll_ix K V d k _ b s h e).symm
    exact (pay_half (heads (K (evenDev k)) d) b s h e).trans ((heads_apply _ d b s h e).trans (kvOf_key _ _ d b s h e).symm)
  · rw [← half_kb_emb k 1 b s h e, View.write_emb_of_mem _ _ (Finset.mem_univ _), half_kb_emb k 1 b s h e]
    refine Eq.trans ?_ (kvAll_ix K V d k _ b s h e).symm
    exact (pay_half (heads (V (evenDev k)) d) b s h e).trans ((heads_apply _ d b s h e).trans (kvOf_val _ _ d b s h e).symm)
theorem put_sb (K V : S2x128x32x64.Idx → Elt F .bf16) (d : Fin 8) (f : S8x2x2x128x4x64.Idx → Elt F .bf16) :
    ∀ i ∈ sbSet d, (sbM.access (sbR d 1)).write (Elt F) ((sbM.access (sbR d 0)).write (Elt F) f (k0_pay1 (heads K d)) Finset.univ)
      (k0_pay1 (heads V d)) Finset.univ i = sendAll K V i := by
  intro i hi
  obtain ⟨j, b, s, h, e, rfl⟩ := sb_ix hi
  have hj := fin2 j
  rcases hj with rfl | rfl
  · rw [View.write_of_not_mem _ _ _ (half_sb_not d b s h e), ← half_sb_emb d 0 b s h e, View.write_emb_of_mem _ _ (Finset.mem_univ _), half_sb_emb d 0 b s h e]
    refine Eq.trans ?_ (sendAll_ix K V d _ b s h e).symm
    exact (pay_half (heads K d) b s h e).trans ((heads_apply _ d b s h e).trans (kvOf_key _ _ d b s h e).symm)
  · rw [← half_sb_emb d 1 b s h e, View.write_emb_of_mem _ _ (Finset.mem_univ _), half_sb_emb d 1 b s h e]
    refine Eq.trans ?_ (sendAll_ix K V d _ b s h e).symm
    exact (pay_half (heads V d) b s h e).trans ((heads_apply _ d b s h e).trans (kvOf_val _ _ d b s h e).symm)

theorem pay_part (v : S2x128x512.Idx → Elt F .bf16) (b : Fin 2) (s : Fin 128) (e : Fin 512) : k0_pay89 v (ix4 0 b s e) = v (ix3 b s e) := by
  unfold k0_pay89
  exact shapeCast_abc_1abc_apply v _ 0 b s e
theorem acM_emb (k : Fin 8) (b : Fin 2) (s : Fin 128) (e : Fin 512) : (acM.access (acR k)).emb (ix4 0 b s e) = ix4 k b s e := by
  show (acR k).emb _ = _
  funext a
  refine Fin.ext ?_
  rw [Rect.emb_apply]
  fin_cases a <;> simp <;> rfl
theorem ac_ix {s : Fin 8} {i : S8x2x128x512.Idx} (hi : i ∈ acSet s) : ∃ (b : Fin 2) (q : Fin 128) (e : Fin 512), i = ix4 s b q e := by
  obtain rfl : i 0 = s := Fin.ext (mem_acSet.mp hi)
  exact ⟨i 1, i 2, i 3, eq_ix4 i⟩
theorem acM_sub (k : Fin 8) : (acM.access (acR k)).setOn Finset.univ ⊆ acSet k := by
  intro i hi
  obtain ⟨x, -, rfl⟩ := Finset.mem_map.mp hi
  refine mem_acSet.mpr ?_
  show (((acR k).emb x) 0).val = _
  have : (x 0).val < 1 := (x 0).isLt
  rw [Rect.emb_apply]
  show k.val + 1 * (x 0).val = k.val
  omega
theorem put_ac (P : Fin 8 → S2x128x512.Idx → Elt F .bf16) (s : Fin 8) (f : S8x2x128x512.Idx → Elt F .bf16) :
    ∀ i ∈ acSet s, (acM.access (acR s)).write (Elt F) f (k0_pay89 (P s)) Finset.univ i = accAll P i := by
  intro i hi
  obtain ⟨b, q, e, rfl⟩ := ac_ix hi
  rw [← acM_emb s b q e, View.write_emb_of_mem _ _ (Finset.mem_univ _), acM_emb s b q e]
  exact pay_part _ b q e

end Cert.KernelIdeal.Proto
-- ==== Proof.Protocol.lean ====
/-
The protocol of the exchange.

Every device signals every other device's barrier and waits for seven signals on its own; with its signal device `p` hands
device `c` the two places `c` will write at `p`: slot `c / 2` of the received keys and values (if `c` is even) and slot `c`
of the partial results.  An even device then copies keys and values to every other device; a device waits for the copies it
receives, computes its partial result, copies it to every other device, waits for the other seven, adds them up, and last
waits for its own copies to have left.

In the rounds library each semaphore of each device is a cell with one round.  A duty of a cell is named by the device that
pays it, so the token a device needs to pay is always one it was dealt under its own name.
-/
module

public import proofs.«01_k».proof.Proof.Slots
public import proofs.«01_k».proof.Proof.Gen.KernelIdeal.Launch
public import Idealize.ShloMosaic.Lib.Rounds
public import Idealize.ShloMosaic.Lib.ShareLeaves
public import Idealize.ShloMosaic.Lib.Pipeline.BigSepL
public import Idealize.ShloMosaic.Lib.Pipeline.Launch
public import Idealize.ShloMosaic.Lib.Tactic

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What the devices compute -/

/-- The five arguments as every device holds them. -/
structure Ins (F : FTy → Type) where
  x : Fin 8 → S2x128x512.Idx → Elt F .bf16
  wq : Fin 8 → S512x256.Idx → Elt F .bf16
  k : Fin 8 → S2x128x32x64.Idx → Elt F .bf16
  v : Fin 8 → S2x128x32x64.Idx → Elt F .bf16
  wo : Fin 8 → S256x512.Idx → Elt F .bf16

variable (I : Ins F)

/-- The keys (`0`) and the values (`1`) device `d` attends to, as it reads them. -/
def kvRead (d : Fin 8) (j : Fin 2) : Vec F S4x1x2x128x4x64 .bf16 := kbM.view.readAt (Elt F) (kbHalfR j).toLoadRect (kvAll I.k I.v d)
/-- The rows of device `d`'s context; -/
def ctxRows (d : Fin 8) : Fin 2 × Fin 4 → FVec F S2x64x1x64 .f32 := ctxVal (k0_pay101 (I.x d) (I.wq d)) (kvRead I d 0) (kvRead I d 1)
/-- all of it, from its rows; -/
def ctxFrom (v : Fin 2 × Fin 4 → S2x64x1x64.Idx → Elt F .f32) : S2x128x4x64.Idx → Elt F .f32 := fun i =>
  v (⟨(i 1).val / 64, (Nat.div_lt_iff_lt_mul (by decide)).mpr (i 1).isLt⟩, i 2) (ix4 (i 0) ⟨(i 1).val % 64, Nat.mod_lt _ (by decide)⟩ 0 (i 3))
/-- its partial result; -/
def parOf (d : Fin 8) : S2x128x512.Idx → Elt F .bf16 := k0_pay130 (ctxFrom (ctxRows I d)) (I.wo d)
/-- the partial result of device `s` as a device reads it back; -/
def accRead (s : Fin 8) : Vec F S1x2x128x512 .bf16 := acM.view.readAt (Elt F) (acR s).toLoadRect (accAll (parOf I))
/-- and the sum every device ends with. -/
def outOf : S2x128x512.Idx → Elt F .f32 :=
  k0_pay132 (k0_pay131 (accRead I 0) (accRead I 1) (accRead I 2) (accRead I 3)) (accRead I 4) (accRead I 5) (accRead I 6) (accRead I 7)

/-! ## The cells -/

/-- A device's semaphores besides its barrier: sends and receives of keys and values, sends and receives of partial results. -/
abbrev DK : Type := (Fin 8 ⊕ Fin 4) ⊕ (Fin 8 ⊕ Fin 8)
abbrev kvs (d : Fin 8) : DK := .inl (.inl d)
abbrev kvr (k : Fin 4) : DK := .inl (.inr k)
abbrev psn (d : Fin 8) : DK := .inr (.inl d)
abbrev prc (s : Fin 8) : DK := .inr (.inr s)

def osem : DK → SemLoc sig
  | .inl (.inl d) => .dma (kvSndS d)
  | .inl (.inr k) => .dma (kvRcvS k)
  | .inr (.inl d) => .dma (pSndS d)
  | .inr (.inr s) => .dma (pRcvS s)
def semOf : Option DK → SemLoc sig
  | none => .reg barS
  | some k => osem k

abbrev cell (c : Dev nD) (k : Option DK) : GSem nD τ sig := ((c : Thread nD τ), semOf k)

def allDK : List DK := (allDev.map kvs ++ allSlot.map kvr) ++ (allDev.map psn ++ allDev.map prc)
def kindOf : SemLoc sig → Option (Option DK)
  | .reg s => if s = barS then some none else none
  | .dma s => (allDK.find? fun k => osem k = .dma s).map some

theorem kindOf_osem : ∀ k : DK, kindOf (osem k) = some (some k) := by decide
theorem kindOf_semOf (k : Option DK) : kindOf (semOf k) = some k := by
  cases k with
  | none => rfl
  | some k => exact kindOf_osem k
theorem semOf_inj {k k' : Option DK} (h : semOf k = semOf k') : k = k' :=
  Option.some.inj ((kindOf_semOf k).symm.trans ((congrArg kindOf h).trans (kindOf_semOf k')))
theorem cell_inj {c c' : Dev nD} {k k' : Option DK} (h : cell c k = cell c' k') : c = c' ∧ k = k' :=
  ⟨congrArg (fun g : GSem nD τ sig => g.1.1) h, semOf_inj (congrArg Prod.snd h)⟩
theorem cell_eq_iff {c c' : Dev nD} {k k' : Option DK} : cell c k = cell c' k' ↔ c = c' ∧ k = k' :=
  ⟨cell_inj, fun h => by rw [h.1, h.2]⟩

def N1 : ℕ := (kbSlot 0).view.dmaCredit
def N2 : ℕ := pbM.view.dmaCredit
theorem N1_pos : 0 < N1 := View.dmaCredit_pos _ (by decide)
theorem N2_pos : 0 < N2 := View.dmaCredit_pos _ (by decide)
theorem credit_kb (k : Fin 4) : (kbSlot k).view.dmaCredit = N1 := rfl
theorem credit_sb (d : Fin 8) : (sbSlot d).view.dmaCredit = N1 := rfl
theorem credit_pb : pbM.view.dmaCredit = N2 := rfl
theorem credit_ac (s : Fin 8) : (acSlot s).view.dmaCredit = N2 := rfl

/-! ## What a device holds of its buffers -/

abbrev kbLoc (c : Dev nD) : Loc nD τ sig := (c : Thread nD τ).loc cc0_scratch1
abbrev sbLoc (c : Dev nD) : Loc nD τ sig := (c : Thread nD τ).loc cc0_scratch0
abbrev pbLoc (c : Dev nD) : Loc nD τ sig := (c : Thread nD τ).loc cc0_scratch2
abbrev acLoc (c : Dev nD) : Loc nD τ sig := (c : Thread nD τ).loc cc0_scratch3

def kvPts (c : Dev nD) (k : Fin 4) (f : S4x2x2x128x4x64.Idx → Elt F .bf16) : sProp 𝕄 := kbLoc c ↦[kbSet k]{fullShare} f
def sbPts (c : Dev nD) (d : Fin 8) (f : S8x2x2x128x4x64.Idx → Elt F .bf16) : sProp 𝕄 := sbLoc c ↦[sbSet d]{fullShare} f
def acPts (c : Dev nD) (s : Fin 8) (f : S8x2x128x512.Idx → Elt F .bf16) : sProp 𝕄 := acLoc c ↦[acSet s]{fullShare} f
/-- the share of the partial result that goes with the copy to device `d`. -/
abbrev pbShare (d : Fin 8) : PosShare TreeShare := ShareLeaves.leaf 3 fullShare d
def pbPts (c : Dev nD) (d : Fin 8) (f : S2x128x512.Idx → Elt F .bf16) : sProp 𝕄 := pbLoc c ↦[Finset.univ]{pbShare d} f

instance kvPts_storable (c : Dev nD) (k) (f) : BI.Storable (upEmb : UEmb _ 𝕄) (kvPts (F := F) c k f) := by unfold kvPts; infer_instance
instance sbPts_storable (c : Dev nD) (k) (f) : BI.Storable (upEmb : UEmb _ 𝕄) (sbPts (F := F) c k f) := by unfold sbPts; infer_instance
instance acPts_storable (c : Dev nD) (k) (f) : BI.Storable (upEmb : UEmb _ 𝕄) (acPts (F := F) c k f) := by unfold acPts; infer_instance
instance pbPts_storable (c : Dev nD) (k) (f) : BI.Storable (upEmb : UEmb _ 𝕄) (pbPts (F := F) c k f) := by unfold pbPts; infer_instance

/-- An even device, and the slot its keys and values go to. -/
def Even8 (c : Fin 8) : Prop := c.val % 2 = 0
instance (c : Fin 8) : Decidable (Even8 c) := by unfold Even8; infer_instance
def slotOf (c : Fin 8) : Fin 4 := ⟨c.val / 2, by omega⟩
theorem even_evenDev : ∀ k : Fin 4, Even8 (evenDev k) := by decide
theorem slotOf_evenDev : ∀ k : Fin 4, slotOf (evenDev k) = k := by decide
theorem evenDev_slotOf : ∀ c : Fin 8, Even8 c → evenDev (slotOf c) = c := by decide

/-- What device `p` hands device `c` with its signal. -/
def kvGive (p c : Dev nD) : sProp 𝕄 := if Even8 c then iprop(∃ f, kvPts p (slotOf c) f) else iprop(emp)
def barPay (p c : Dev nD) : sProp 𝕄 := iprop((∃ f, acPts p c f) ∗ kvGive p c)
instance barPay_storable (p c : Dev nD) : BI.Storable (upEmb : UEmb _ 𝕄) (barPay (F := F) p c) := by
  unfold barPay kvGive; split <;> infer_instance

/-! ## The schedule -/

def dutiesOf (c : Dev nD) : Option DK → Finset (Fin 8)
  | none => Finset.univ.erase c
  | some (.inl (.inl d)) => if Even8 c ∧ d ≠ c then {c} else ∅
  | some (.inl (.inr k)) => if evenDev k = c then ∅ else {evenDev k}
  | some (.inr (.inl d)) => if d ≠ c then {c} else ∅
  | some (.inr (.inr s)) => if s = c then ∅ else {s}
def amountOf : Option DK → ℕ
  | none => 1
  | some (.inl _) => N1
  | some (.inr _) => N2
def payOf (c : Dev nD) (p : Fin 8) : Option DK → sProp 𝕄
  | none => barPay p c
  | some (.inl (.inl d)) => sbPts c d (sendAll (I.k c) (I.v c))
  | some (.inl (.inr k)) => kvPts c k (kvAll I.k I.v c)
  | some (.inr (.inl d)) => pbPts c d (parOf I c)
  | some (.inr (.inr s)) => acPts c s (accAll (parOf I))

instance payOf_storable (c : Dev nD) (p : Fin 8) (k : Option DK) : BI.Storable (upEmb : UEmb _ 𝕄) (payOf (F := F) I c p k) := by
  rcases k with _ | (d | k) | d | s <;> unfold payOf <;> infer_instance

def rd : Rounds.Schedule (GSem nD τ sig) (Fin 8) 𝕄 where
  duties g r := if r = 0 ∧ g.1.2 = .tc then ((kindOf g.2).map (dutiesOf g.1.1)).getD ∅ else ∅
  unitless _ := False
  amount g _ _ := ((kindOf g.2).map amountOf).getD 1
  payload g _ p := ((kindOf g.2).map (payOf I g.1.1 p)).getD iprop(emp)
  amount_pos g _ _ _ := by
    rcases kindOf g.2 with _ | _ | k | k
    · exact Nat.one_pos
    · exact Nat.one_pos
    · exact N1_pos
    · exact N2_pos

instance rd_payload_storable (g : GSem nD τ sig) (r : ℕ) (d : Fin 8) : BI.Storable (upEmb : UEmb _ 𝕄) ((rd (F := F) I).payload g r d) := by
  show BI.Storable upEmb (((kindOf g.2).map (payOf I g.1.1 d)).getD iprop(emp))
  rcases kindOf g.2 with _ | k
  · show BI.Storable upEmb (iprop(emp) : sProp 𝕄); infer_instance
  · show BI.Storable upEmb (payOf I g.1.1 d k); infer_instance

section Sched
variable (c : Dev nD) (k : Option DK)

theorem rd_duties : (rd I).duties (cell c k) 0 = dutiesOf c k := by
  dsimp only [rd]; rw [if_pos ⟨rfl, rfl⟩, kindOf_semOf]; rfl
theorem rd_amount (p : Fin 8) : (rd I).amount (cell c k) 0 p = amountOf k := by
  dsimp only [rd]; rw [kindOf_semOf]; rfl
theorem rd_payload (p : Fin 8) : (rd I).payload (cell c k) 0 p = payOf I c p k := by
  dsimp only [rd]; rw [kindOf_semOf]; rfl
theorem rd_later (g : GSem nD τ sig) : ∀ r, 1 ≤ r → (rd I).duties g r = ∅ :=
  fun r hr => by dsimp only [rd]; exact if_neg fun h => by omega
theorem rd_never (h : dutiesOf c k = ∅) : ∀ r, 0 ≤ r → (rd I).duties (cell c k) r = ∅ := fun r _ => by
  rcases Nat.eq_zero_or_pos r with rfl | hr
  · rw [rd_duties, h]
  · exact rd_later I _ r hr
theorem rd_expect : (rd I).expect (cell c k) 0 = (dutiesOf c k).card * amountOf k := by
  unfold Schedule.expect Schedule.amountOf
  rw [rd_duties, Finset.sum_congr rfl fun d _ => rd_amount I c k d, Finset.sum_const, smul_eq_mul]
theorem rd_rest : bigSep ((rd I).duties (cell c k) 0 \ ∅) (fun p => (rd I).payload (cell c k) 0 p) = bigSep (dutiesOf c k) (fun p => payOf I c p k) := by
  rw [Finset.sdiff_empty, rd_duties]; exact bigSep_congr fun p _ => rd_payload I c k p
end Sched

/-! ## What each device owes at launch; the levels -/

abbrev Tal : Type := CellTallies nD τ sig Unit

/-- The tallies of a list of steps. -/
def sumL {α : Type} (t : α → Tal) : List α → Tal
  | [] => 0
  | a :: l => sumL t l + t a

theorem sumL_pos {α : Type} {t : α → Tal} {g : GSem nD τ sig} {u : Unit} : ∀ {l : List α}, 0 < sumL t l g u → ∃ a ∈ l, 0 < t a g u
  | [], h => absurd h (by simp [sumL])
  | a :: l, h => by
    unfold sumL at h
    rw [Pi.add_apply, Finsupp.add_apply] at h
    rcases Nat.eq_zero_or_pos (t a g u) with h0 | h0
    · rw [h0, Nat.add_zero] at h
      obtain ⟨b, hb, hb'⟩ := sumL_pos h
      exact ⟨b, List.mem_cons_of_mem _ hb, hb'⟩
    · exact ⟨a, List.mem_cons_self, h0⟩

def tBar (c p : Fin 8) : Tal := if p = c then 0 else tallyAt (cell p none) () 1
def tKv (c : Fin 8) (k : Fin 4) (d : Fin 8) : Tal := tallyAt (cell d (some (kvr k))) () N1
def tPr (c d : Fin 8) : Tal := tallyAt (cell d (some (prc c))) () N2
def tKvs (c : Fin 8) (k : Fin 4) : Tal := if evenDev k = c then sumL (tKv c k) (others (evenDev k)) else 0
def tPrs (c s : Fin 8) : Tal := if s = c then sumL (tPr c) (others s) else 0

/-- The three debts of device `c`: its signals, its copies of keys and values, its copies of its partial result. -/
def oPr (c : Fin 8) : Tal := sumL (tPrs c) allDev
def oKv (c : Fin 8) : Tal := oPr c + sumL (tKvs c) allSlot
def O₀ (c : Dev nD) : Tal := oKv c + sumL (tBar c) allDev

def L (g : GSem nD τ sig) : Finset Unit := if g.1.2 = .tc then {()} else ∅
def lvOf : Option (Option DK) → ℕ
  | some none => 1
  | some (some (.inl (.inr _))) => 2
  | some (some (.inr (.inr _))) => 3
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Option DK) (u : Unit) : lv (cell c k) u = lvOf (some k) := by unfold lv; rw [kindOf_semOf]

theorem tally_pos {g g' : GSem nD τ sig} {n : ℕ} {u : Unit} (h : 0 < (tallyAt g () n : Tal) g' u) : g' = g := by
  rw [tallyAt_apply] at h
  by_contra hn
  rw [if_neg fun h' => hn h'.1] at h
  exact Nat.lt_irrefl 0 h

theorem tPrs_pos {c s : Fin 8} {g : GSem nD τ sig} {u : Unit} (h : 0 < tPrs c s g u) : ∃ d, g = cell d (some (prc c)) := by
  unfold tPrs at h
  split at h
  · obtain ⟨d, -, hd⟩ := sumL_pos h
    exact ⟨d, tally_pos hd⟩
  · exact absurd h (by simp)
theorem tKvs_pos {c : Fin 8} {k : Fin 4} {g : GSem nD τ sig} {u : Unit} (h : 0 < tKvs c k g u) : ∃ d, g = cell d (some (kvr k)) := by
  unfold tKvs at h
  split at h
  · obtain ⟨d, -, hd⟩ := sumL_pos h
    exact ⟨d, tally_pos hd⟩
  · exact absurd h (by simp)
theorem tBar_pos {c p : Fin 8} {g : GSem nD τ sig} {u : Unit} (h : 0 < tBar c p g u) : g = cell p none := by
  unfold tBar at h
  split at h
  · exact absurd h (by simp)
  · exact tally_pos h

theorem oPr_pos {c : Fin 8} {g : GSem nD τ sig} {u : Unit} (h : 0 < oPr c g u) : ∃ d, g = cell d (some (prc c)) := by
  obtain ⟨s, -, hs⟩ := sumL_pos h
  exact tPrs_pos hs
theorem oKv_pos {c : Fin 8} {g : GSem nD τ sig} {u : Unit} (h : 0 < oKv c g u) : ∃ (d : Dev nD) (k : Option DK), g = cell d k ∧ 2 ≤ lvOf (some k) := by
  unfold oKv at h
  rw [Pi.add_apply, Finsupp.add_apply] at h
  rcases Nat.eq_zero_or_pos (oPr c g u) with h0 | h0
  · rw [h0, Nat.zero_add] at h
    obtain ⟨k, -, hk⟩ := sumL_pos h
    obtain ⟨d, hd⟩ := tKvs_pos hk
    exact ⟨d, _, hd, le_refl 2⟩
  · obtain ⟨d, hd⟩ := oPr_pos h0
    exact ⟨d, _, hd, by show 2 ≤ 3; decide⟩
theorem O₀_pos {c : Dev nD} {g : GSem nD τ sig} {u : Unit} (h : 0 < O₀ c g u) : ∃ (d : Dev nD) (k : Option DK), g = cell d k ∧ 1 ≤ lvOf (some k) := by
  unfold O₀ at h
  rw [Pi.add_apply, Finsupp.add_apply] at h
  rcases Nat.eq_zero_or_pos (oKv c g u) with h0 | h0
  · rw [h0, Nat.zero_add] at h
    obtain ⟨p, -, hp⟩ := sumL_pos h
    exact ⟨p, none, tBar_pos hp, le_refl 1⟩
  · obtain ⟨d, k, hd, hk⟩ := oKv_pos h0
    exact ⟨d, k, hd, by omega⟩

/-- A device may wait at a semaphore below everything it owes. -/
theorem mayWait_of (c : Dev nD) (sm : SemLoc sig) (n : ℕ) (hsm : lvOf (kindOf sm) ≤ n) (O : Tal)
    (hO : ∀ (g : GSem nD τ sig) (u : Unit), 0 < O g u → ∃ (d : Dev nD) (k : Option DK), g = cell d k ∧ n < lvOf (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hsm)
    (fun g u hg => by obtain ⟨d, k, rfl, h⟩ := hO g u hg; rw [lv_cell]; exact h)

theorem mayWait_bar (c : Dev nD) : (levAts L lv : sProp 𝕄) ⊢ MayWait (c : Thread nD τ) (semOf none) () (oKv c) :=
  mayWait_of c _ 1 (by rw [kindOf_semOf]; exact le_refl 1) _ fun g u h => oKv_pos h
theorem mayWait_kvr (c : Dev nD) (k : Fin 4) : (levAts L lv : sProp 𝕄) ⊢ MayWait (c : Thread nD τ) (semOf (some (kvr k))) () (oPr c) :=
  mayWait_of c _ 2 (by rw [kindOf_semOf]; exact le_refl 2) _ fun g u h => by
    obtain ⟨d, hd⟩ := oPr_pos h
    exact ⟨d, _, hd, by show 2 < 3; decide⟩
theorem mayWait_zero (c : Dev nD) (sm : SemLoc sig) : (emp : sProp 𝕄) ⊢ MayWait (c : Thread nD τ) sm () 0 := by
  rw [MayWait_zero]; iintro -; iempintro
theorem mayWait_stage (c : Dev nD) (q : DmaSem sig) (hq : kindOf (.dma q) = none) (O : Tal) (hO : O = O₀ c ∨ O = 0) :
    (levAts L lv : sProp 𝕄) ⊢ MayWait (c : Thread nD τ) (.dma q) () O := by
  rcases hO with rfl | rfl
  · exact mayWait_of c _ 0 (by rw [hq]; exact le_refl 0) _ fun g u h => O₀_pos h
  · rw [MayWait_zero]; iintro -; iempintro

end Cert.KernelIdeal.Proto
-- ==== Proof.Steps.lean ====
/-
The rules of the exchange's operations: a signal, a wait (its cell closed at once, since a cell has one round), and a copy to
another device, each over the cells of the schedule; and how a list of steps is run one after the other.
-/
module

public import proofs.«01_k».proof.Proof.Protocol

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- `p` runs on device `c` to a state of `Q`. -/
abbrev Wp (c : Dev nD) {α : Type} (p : Pg F α) (Q : α → sProp 𝕄) : sProp 𝕄 :=
  wp frame (wpE (defs₀ (F := F)) 𝒱₀ (c : Thread nD τ) none) Set.univ p Q

variable (I : Ins F) (K : Dev nD × Option DK → ℕ)

/-- Every cell's invariant, under the names the launch gave, and that its round is open. -/
def recs : sProp 𝕄 := bigSep Finset.univ fun p : Dev nD × Option DK => iprop(cellInv ER (rd I) (K p) (cell p.1 p.2) ∗ reached ER (cell p.1 p.2) 0)
instance recs_persistent : BI.Persistent (recs I K) := by unfold recs; infer_instance
/-- With the levels. -/
def facts : sProp 𝕄 := iprop(recs I K ∗ levAts L lv)
instance facts_persistent : BI.Persistent (facts I K) := by unfold facts; infer_instance

theorem recs_at (c : Dev nD) (k : Option DK) : recs I K ⊢ iprop(cellInv ER (rd I) (K (c, k)) (cell c k) ∗ reached ER (cell c k) 0) := by
  unfold recs
  exact bigSep_elim (Φ := fun p : Dev nD × Option DK => iprop(cellInv ER (rd I) (K p) (cell p.1 p.2) ∗ reached ER (cell p.1 p.2) 0)) (Finset.mem_univ (c, k))
theorem facts_at (c : Dev nD) (k : Option DK) : facts I K ⊢ iprop(cellInv ER (rd I) (K (c, k)) (cell c k) ∗ reached ER (cell c k) 0) := by
  unfold facts
  iintro ⟨H, -⟩
  iapply (recs_at I K c k)
  iexact H
theorem facts_lev : facts I K ⊢ (levAts L lv : sProp 𝕄) := by
  unfold facts
  iintro ⟨-, H⟩
  iexact H

/-- A device owes `O`, whatever it has waited at. -/
def debt (c : Dev nD) (O : Tal) : sProp 𝕄 := iprop(∃ W, owes (c : Thread nD τ) O W)

/-! ## A list of steps -/

section Each
variable {α β : Type} (c : Dev nD) (f : α → Pg F β → Pg F β) (R : sProp (MT nD τ sig Unit (Elt F) ℕ UU ℕ)) [BI.Persistent R] (pre post : α → sProp (MT nD τ sig Unit (Elt F) ℕ UU ℕ)) (S : List α → sProp (MT nD τ sig Unit (Elt F) ℕ UU ℕ))

theorem wp_each (P : α → Prop) (Q : β → sProp 𝕄)
    (h : ∀ a, P a → ∀ (l : List α) (k : Pg F β), iprop(R ∗ pre a ∗ S (a :: l) ∗ ((post a ∗ S l) -∗ Wp c k Q)) ⊢ Wp c (f a k) Q) (k : Pg F β) :
    ∀ l : List α, (∀ a ∈ l, P a) → iprop(R ∗ bigSepL l pre ∗ S l ∗ ((bigSepL l post ∗ S []) -∗ Wp c k Q)) ⊢ Wp c (each f k l) Q
  | [], _ => by
    rw [show each f k [] = k from rfl, show bigSepL [] post = iprop(emp) from rfl]
    iintro ⟨-, -, HS, Hk⟩
    iapply Hk
    isplitr
    · iempintro
    iexact HS
  | a :: l, hl => by
    rw [bigSepL_cons', bigSepL_cons', show each f k (a :: l) = f a (each f k l) from rfl]
    iintro ⟨#HR, ⟨Ha, Hl⟩, HS, Hk⟩
    iapply (h a (hl a List.mem_cons_self) l (each f k l))
    isplitr; · iexact HR
    isplitl [Ha]; · iexact Ha
    isplitl [HS]; · iexact HS
    iintro ⟨Hp, HS⟩
    iapply (wp_each P Q h k l fun b hb => hl b (List.mem_cons_of_mem _ hb))
    isplitr; · iexact HR
    isplitl [Hl]; · iexact Hl
    isplitl [HS]; · iexact HS
    iintro ⟨Hps, HS⟩
    iapply Hk
    isplitl [Hp Hps]
    · isplitl [Hp]; · iexact Hp
      iexact Hps
    iexact HS

end Each

/-! ## The exchange's operations -/

section Ops
variable (c : Dev nD) {β : Type} {Q : β → sProp (MT nD τ sig Unit (Elt F) ℕ UU ℕ)}

/-- A cell nobody pays is at zero. -/
theorem close_never (k : Option DK) (h : dutiesOf c k = ∅) :
    iprop(facts I K ∗ atPos ER (cell c k) 0 ∅ 0) ⊢ iprop(|={Set.univ}=> semVal (cell c k) 0) := by
  iintro ⟨#HR, Hat⟩
  icases (facts_at I K c k) $$ HR with ⟨#HI, -⟩
  have hn : ∀ r, 0 ≤ r → (rd I).duties (cell c k) r = ∅ := rd_never I c k h
  imod (Rounds.cell_close ER (rd I) (Set.mem_univ (K (c, k))) (fun h => h) (R := 0) hn) $$ [Hat] with Hz
  · isplitr; · iexact HI
    iexact Hat
  imodintro
  iexact Hz

/-- A wait for all a cell is paid: its payloads, and the cell at zero. -/
theorem wp_wait_cell (k : Option DK) {n : ℕ} {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (semOf k) n P)
    (hn : n = (dutiesOf c k).card * amountOf k) (O : Tal) {p : PUnit → Pg F β} :
    iprop(facts I K ∗ cred (tallyAt (cell c k) () n) ∗ debt c O ∗ MayWait (c : Thread nD τ) (semOf k) () O ∗ atPos ER (cell c k) 0 ∅ 0
        ∗ ((debt c O ∗ semVal (cell c k) 0 ∗ bigSep (dutiesOf c k) (fun p => payOf I c p k)) -∗ Wp c (p ⟨⟩) Q))
      ⊢ Wp c (.op w p) Q := by
  iintro ⟨#HR, Hc, Ho, Hm, Hat, Hk⟩
  icases (facts_at I K c k) $$ HR with ⟨#HI, -⟩
  unfold debt
  icases Ho with ⟨%W, HO⟩
  have he : 0 + n = (rd I).expect (cell c k) 0 := (Nat.zero_add n).trans (hn.trans (rd_expect I c k).symm)
  have hl : ∀ r, 0 + 1 ≤ r → (rd I).duties (cell c k) r = ∅ := rd_later I (cell c k)
  iapply (Rounds.wp_wait_rest_token 𝒱₀ ER (rd I) (c : Thread nD τ) none (κ := K (c, k)) hw (Set.mem_univ _) () (O := O) (W := W) (R := 0) (m := 0) (T := ∅)
      he) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rd_rest I c k)) $$ Hpay
  imod (Rounds.cell_close ER (rd I) (Set.mem_univ (K (c, k))) (fun h => h) (R := 0 + 1) hl) $$ [Hat] with Hz
  · isplitr; · iexact HI
    iexact Hat
  iapply Hk
  isplitl [HO]; · iexists (insert (semOf k, ()) W); iexact HO
  isplitl [Hz]; · iexact Hz
  iexact Hp

/-- A signal to device `p`'s barrier. -/
theorem wp_signal_bar (p : Dev nD) (hp : p ≠ c) (O : Tal) {k : PUnit → Pg F β} :
    iprop(facts I K ∗ debt c (O + tallyAt (cell p none) () 1) ∗ dutyTok ER (cell p none) 0 c ∗ barPay c p ∗ (debt c O -∗ Wp c (k ⟨⟩) Q))
      ⊢ Wp c (.op (.semSignal (p : Thread nD τ) barS 1) k) Q := by
  iintro ⟨#HR, Ho, Ht, Hp, Hk⟩
  icases (facts_at I K p none) $$ HR with ⟨#HI, #Hr⟩
  unfold debt
  icases Ho with ⟨%W, HO⟩
  have hd : c ∈ (rd I).duties (cell p none) 0 := (rd_duties I p none).symm ▸ Finset.mem_erase.mpr ⟨fun h => hp h.symm, Finset.mem_univ c⟩
  iapply (Rounds.wp_signal 𝒱₀ ER (rd I) (c : Thread nD τ) none (dst := (p : Thread nD τ)) (κ := K (p, none))
      (d := c) hd (rd_amount I p none c) () O rfl) $$ [HO Ht Hp]
  · isplitr; · iexact HI
    isplitl [HO]; · iexact HO
    isplitl [Ht]; · iexact Ht
    isplitl [Hp]; · rw [show (rd I).payload ((p : Thread nD τ), SemLoc.reg barS) 0 c = barPay c p from rd_payload I p none c]; iexact Hp
    iexact Hr
  iintro HO
  iapply Hk
  iexists W; iexact HO

end Ops

end Cert.KernelIdeal.Proto
-- ==== Proof.Sends.lean ====
/-
The exchange's copies: an even device's slot of keys and values, and a device's partial result, to another device.
-/
module

public import proofs.«01_k».proof.Proof.Steps

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option DK → ℕ)

/-! ## The slots as the copies see them -/

theorem kvPts_eq (c : Dev nD) (k : Fin 4) (f : S4x2x2x128x4x64.Idx → Elt F .bf16) :
    (kvPts c k f : sProp 𝕄) = ((kbSlot k).view.loc (c : Thread nD τ) ↦[(kbSlot k).view.set]{fullShare} f) := by
  unfold kvPts; rw [kbSlot_set]
theorem sbPts_eq (c : Dev nD) (d : Fin 8) (f : S8x2x2x128x4x64.Idx → Elt F .bf16) :
    (sbPts c d f : sProp 𝕄) = ((sbSlot d).view.loc (c : Thread nD τ) ↦[(sbSlot d).view.set]{fullShare} f) := by
  unfold sbPts; rw [sbSlot_set]
theorem acPts_eq (c : Dev nD) (s : Fin 8) (f : S8x2x128x512.Idx → Elt F .bf16) :
    (acPts c s f : sProp 𝕄) = ((acSlot s).view.loc (c : Thread nD τ) ↦[(acSlot s).view.set]{fullShare} f) := by
  unfold acPts; rw [acSlot_set]
theorem pbPts_eq (c : Dev nD) (d : Fin 8) (f : S2x128x512.Idx → Elt F .bf16) :
    (pbPts c d f : sProp 𝕄) = (pbM.view.loc (c : Thread nD τ) ↦[pbM.view.set]{pbShare d} f) := by
  unfold pbPts; simp only [Memref.view_whole, View.set_whole]

theorem kvPts_congr {c : Dev nD} {k : Fin 4} {f g : S4x2x2x128x4x64.Idx → Elt F .bf16} (h : ∀ i ∈ kbSet k, f i = g i) :
    (kvPts c k f : sProp 𝕄) = kvPts c k g := pointsTo_congr h
theorem sbPts_congr {c : Dev nD} {k : Fin 8} {f g : S8x2x2x128x4x64.Idx → Elt F .bf16} (h : ∀ i ∈ sbSet k, f i = g i) :
    (sbPts c k f : sProp 𝕄) = sbPts c k g := pointsTo_congr h
theorem acPts_congr {c : Dev nD} {k : Fin 8} {f g : S8x2x128x512.Idx → Elt F .bf16} (h : ∀ i ∈ acSet k, f i = g i) :
    (acPts c k f : sProp 𝕄) = acPts c k g := pointsTo_congr h

/-! ## The copies -/

section Ops
variable {c : Dev nD} {β : Type} {Q : β → sProp (MT nD τ sig Unit (Elt F) ℕ UU ℕ)}

theorem wp_kv_send (k : Fin 4) (d : Fin 8) (hk : evenDev k = c) (hd : d ≠ c) (O : Tal) {p : PUnit → Pg F β}
    {hsc : (kbSlot k).view.ref.isScScratch = false} {hsrc : (sbSlot d).view.WordExact} {hdst : (kbSlot k).view.WordExact}
    {hsem : DmaTarget.Typed .vmem (.dma (kvRcvS k)) (.remote (Dev.tc (d : Dev nD) : Thread nD τ) (kbSlot k) (.dma (kvSndS d)) hsc)} :
    iprop(facts I K ∗ sbPts c d (sendAll (I.k c) (I.v c)) ∗ (∃ f, kvPts d k f) ∗ debt c (O + tKv c k d)
        ∗ dutyTok ER (cell c (some (kvs d))) 0 c ∗ dutyTok ER (cell d (some (kvr k))) 0 c
        ∗ ((cred (tallyAt (cell c (some (kvs d))) () N1) ∗ debt c O) -∗ Wp c (p ⟨⟩) Q))
      ⊢ Wp c (.op (.enqueueDma (sbSlot d) (.remote (Dev.tc (d : Dev nD) : Thread nD τ) (kbSlot k) (.dma (kvSndS d)) hsc) (.dma (kvRcvS k)) hsrc hdst hsem) p) Q := by
  subst hk
  iintro ⟨#HR, Hs, ⟨%fd, Hd⟩, Ho, Ht1, Ht2, Hk⟩
  icases (facts_at I K (evenDev k) (some (kvs d))) $$ HR with ⟨#HI1, #Hr1⟩
  icases (facts_at I K d (some (kvr k))) $$ HR with ⟨#HI2, #Hr2⟩
  unfold debt
  icases Ho with ⟨%W, HO⟩
  ihave Hs' := (Entails.of_eq (sbPts_eq _ _ _)) $$ Hs
  ihave Hd' := (Entails.of_eq (kvPts_eq _ _ _)) $$ Hd
  have hN : (kbSlot k).view.amount (.dma (kvRcvS k)) = N1 := (View.amount_dma _ _).trans (credit_kb k)
  have hd1 : evenDev k ∈ (rd I).duties (cell (evenDev k) (some (kvs d))) 0 := by
    rw [rd_duties]; show _ ∈ (if Even8 (evenDev k) ∧ d ≠ evenDev k then _ else _); rw [if_pos ⟨even_evenDev k, hd⟩]; exact Finset.mem_singleton_self _
  have hd2 : evenDev k ∈ (rd I).duties (cell d (some (kvr k))) 0 := by
    rw [rd_duties]; show _ ∈ (if evenDev k = d then _ else _); rw [if_neg fun h => hd h.symm]; exact Finset.mem_singleton_self _
  have hp1 : ((sbSlot d).view.loc (evenDev k : Thread nD τ) ↦[(sbSlot d).view.set]{fullShare} sendAll (I.k (evenDev k)) (I.v (evenDev k)) : sProp 𝕄)
      ⊢ (rd I).payload (cell (evenDev k) (some (kvs d))) 0 (evenDev k) :=
    Entails.of_eq ((sbPts_eq _ _ _).symm.trans (rd_payload I (evenDev k) (some (kvs d)) (evenDev k)).symm)
  have hp2 : ((kbSlot k).view.loc (d : Thread nD τ) ↦[(kbSlot k).view.set]{fullShare}
        ((kbSlot k).view.write (Elt F) fd ((sbSlot d).view.read (Elt F) (sendAll (I.k (evenDev k)) (I.v (evenDev k)))) Finset.univ) : sProp 𝕄)
      ⊢ (rd I).payload (cell d (some (kvr k))) 0 (evenDev k) :=
    Entails.of_eq ((kvPts_eq _ _ _).symm.trans ((kvPts_congr (land_kb I.k I.v k d fd)).trans (rd_payload I d (some (kvr k)) (evenDev k)).symm))
  have HH := (Rounds.wp_send_pointsTo (defs := defs₀ (F := F)) (Γ := []) (Q := Q) (k := p) (hsc := hsc) (hsrc := hsrc) (hdst := hdst) (hsem := hsem) 𝒱₀ ER (rd I) (evenDev k : Thread nD τ) none (κ₁ := K (evenDev k, some (kvs d))) (κ₂ := K (d, some (kvr k)))
    (r₁ := 0) (r₂ := 0) (d₁ := evenDev k) (d₂ := evenDev k) (fd := fd) hd1 hd2 () () N1 hN
    (rd_amount I (evenDev k) (some (kvs d)) (evenDev k)) (rd_amount I d (some (kvr k)) (evenDev k)) O rfl (W := W) (Es := Set.univ) hp1 hp2)
  iapply HH $$ [Hs' Hd' HO Ht1 Ht2]
  · isplitr; · iexact HI1
    isplitr; · iexact HI2
    isplitl [Hs']; · iexact Hs'
    isplitl [Hd']; · iexact Hd'
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

theorem wp_p_send (d : Fin 8) (hd : d ≠ c) (O : Tal) {p : PUnit → Pg F β}
    {hsc : (acSlot c).view.ref.isScScratch = false} {hsrc : pbM.view.WordExact} {hdst : (acSlot c).view.WordExact}
    {hsem : DmaTarget.Typed .vmem (.dma (pRcvS c)) (.remote (Dev.tc (d : Dev nD) : Thread nD τ) (acSlot c) (.dma (pSndS d)) hsc)} :
    iprop(facts I K ∗ pbPts c d (parOf I c) ∗ (∃ f, acPts d c f) ∗ debt c (O + tPr c d)
        ∗ dutyTok ER (cell c (some (psn d))) 0 c ∗ dutyTok ER (cell d (some (prc c))) 0 c
        ∗ ((cred (tallyAt (cell c (some (psn d))) () N2) ∗ debt c O) -∗ Wp c (p ⟨⟩) Q))
      ⊢ Wp c (.op (.enqueueDma pbM (.remote (Dev.tc (d : Dev nD) : Thread nD τ) (acSlot c) (.dma (pSndS d)) hsc) (.dma (pRcvS c)) hsrc hdst hsem) p) Q := by
  iintro ⟨#HR, Hs, ⟨%fd, Hd⟩, Ho, Ht1, Ht2, Hk⟩
  icases (facts_at I K c (some (psn d))) $$ HR with ⟨#HI1, #Hr1⟩
  icases (facts_at I K d (some (prc c))) $$ HR with ⟨#HI2, #Hr2⟩
  unfold debt
  icases Ho with ⟨%W, HO⟩
  ihave Hs' := (Entails.of_eq (pbPts_eq _ _ _)) $$ Hs
  ihave Hd' := (Entails.of_eq (acPts_eq _ _ _)) $$ Hd
  have hN : (acSlot c).view.amount (.dma (pRcvS c)) = N2 := (View.amount_dma _ _).trans (credit_ac c)
  have hd1 : c ∈ (rd I).duties (cell c (some (psn d))) 0 := by
    rw [rd_duties]; show _ ∈ (if d ≠ c then _ else _); rw [if_pos hd]; exact Finset.mem_singleton_self _
  have hd2 : c ∈ (rd I).duties (cell d (some (prc c))) 0 := by
    rw [rd_duties]; show _ ∈ (if c = d then _ else _); rw [if_neg fun h => hd h.symm]; exact Finset.mem_singleton_self _
  have hp1 : (pbM.view.loc (c : Thread nD τ) ↦[pbM.view.set]{pbShare d} parOf I c : sProp 𝕄)
      ⊢ (rd I).payload (cell c (some (psn d))) 0 c :=
    Entails.of_eq ((pbPts_eq _ _ _).symm.trans (rd_payload I c (some (psn d)) c).symm)
  have hp2 : ((acSlot c).view.loc (d : Thread nD τ) ↦[(acSlot c).view.set]{fullShare}
        ((acSlot c).view.write (Elt F) fd (pbM.view.read (Elt F) (parOf I c)) Finset.univ) : sProp 𝕄)
      ⊢ (rd I).payload (cell d (some (prc c))) 0 c :=
    Entails.of_eq ((acPts_eq _ _ _).symm.trans ((acPts_congr (land_ac (parOf I) c fd)).trans (rd_payload I d (some (prc c)) c).symm))
  have HH := (Rounds.wp_send_pointsTo (defs := defs₀ (F := F)) (Γ := []) (Q := Q) (k := p) (hsc := hsc) (hsrc := hsrc) (hdst := hdst) (hsem := hsem) 𝒱₀ ER (rd I) (c : Thread nD τ) none (κ₁ := K (c, some (psn d))) (κ₂ := K (d, some (prc c)))
    (r₁ := 0) (r₂ := 0) (d₁ := c) (d₂ := c) (fd := fd) hd1 hd2 () () N2 hN
    (rd_amount I c (some (psn d)) c) (rd_amount I d (some (prc c)) c) O rfl (W := W) (Es := Set.univ) hp1 hp2)
  iapply HH $$ [Hs' Hd' HO Ht1 Ht2]
  · isplitr; · iexact HI1
    isplitr; · iexact HI2
    isplitl [Hs']; · iexact Hs'
    isplitl [Hd']; · iexact Hd'
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Ops

end Cert.KernelIdeal.Proto
-- ==== Proof.Moves.lean ====
/-
What each step of the exchange of keys and values does: the signals, a device's own slot, the copies to the others, the waits.
-/
module

public import proofs.«01_k».proof.Proof.Sends

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option DK → ℕ)

/-! ## The printed conditions -/

theorem condNe_iff : ∀ c p : Fin 8, condNe (place (c : Dev nD)) p.val = 1#1 ↔ p ≠ c := by decide
theorem condEq_iff : ∀ c p : Fin 8, condEq (place (c : Dev nD)) p.val = 1#1 ↔ p = c := by decide
theorem condSent_iff : ∀ c p : Fin 8, condSent (place (c : Dev nD)) p.val = 1#1 ↔ Even8 c ∧ p ≠ c := by decide

/-! ## The arguments, as a device holds them -/

def xIn (c : Dev nD) : sProp 𝕄 := (c : Thread nD τ).loc cc0_stg0_0 ↦{fullShare} I.x c
def wqIn (c : Dev nD) : sProp 𝕄 := (c : Thread nD τ).loc cc0_stg1_0 ↦{fullShare} I.wq c
def kIn (c : Dev nD) : sProp 𝕄 := (c : Thread nD τ).loc cc0_stg2_0 ↦{fullShare} I.k c
def vIn (c : Dev nD) : sProp 𝕄 := (c : Thread nD τ).loc cc0_stg3_0 ↦{fullShare} I.v c
def woIn (c : Dev nD) : sProp 𝕄 := (c : Thread nD τ).loc cc0_stg4_0 ↦{fullShare} I.wo c

theorem kb_load_sub (k : Fin 4) (j : Fin 2) : (kbM.access (kbR k j)).set ⊆ kbSet k := by
  rw [← View.setOn_univ]; exact half_kb_sub k j
theorem sb_load_sub (d : Fin 8) (j : Fin 2) : (sbM.access (sbR d j)).set ⊆ sbSet d := by
  rw [← View.setOn_univ]; exact half_sb_sub d j

section Ops
variable {c : Dev nD} {β : Type} {Q : β → sProp (MT nD τ sig Unit (Elt F) ℕ UU ℕ)}

theorem wp_putKb (k : Fin 4) (j : Fin 2) (v : FVec F S1x1x2x128x4x64 .bf16) (f : S4x2x2x128x4x64.Idx → Elt F .bf16) {p : PUnit → Pg F β} :
    iprop(kvPts c k f ∗ (kvPts c k ((kbM.access (kbR k j)).write (Elt F) f v Finset.univ) -∗ Wp c (p ⟨⟩) Q)) ⊢ Wp c (putKb k j v >>= p) Q := by
  unfold putKb kvPts
  simp only [Prog.lift, Prog.bind_op, Prog.bind_ret, Prog.pure_eq_ret]
  iintro ⟨H, Hk⟩
  iapply (wp_load_rect 𝒱₀ (c : Thread nD τ) none Set.univ (m := kbM) (r := kbR k j) (kb_load_sub k j)) $$ H
  iintro H
  iapply (wp_store 𝒱₀ (c : Thread nD τ) none Set.univ (m := kbM) (r := kbR k j) (Mk := Finset.univ) (half_kb_sub k j)) $$ H
  iintro H
  iapply Hk
  iexact H
theorem wp_putSb (d : Fin 8) (j : Fin 2) (v : FVec F S1x1x2x128x4x64 .bf16) (f : S8x2x2x128x4x64.Idx → Elt F .bf16) {p : PUnit → Pg F β} :
    iprop(sbPts c d f ∗ (sbPts c d ((sbM.access (sbR d j)).write (Elt F) f v Finset.univ) -∗ Wp c (p ⟨⟩) Q)) ⊢ Wp c (putSb d j v >>= p) Q := by
  unfold putSb sbPts
  simp only [Prog.lift, Prog.bind_op, Prog.bind_ret, Prog.pure_eq_ret]
  iintro ⟨H, Hk⟩
  iapply (wp_load_rect 𝒱₀ (c : Thread nD τ) none Set.univ (m := sbM) (r := sbR d j) (sb_load_sub d j)) $$ H
  iintro H
  iapply (wp_store 𝒱₀ (c : Thread nD τ) none Set.univ (m := sbM) (r := sbR d j) (Mk := Finset.univ) (half_sb_sub d j)) $$ H
  iintro H
  iapply Hk
  iexact H

theorem wp_headK (d : Fin 8) {p : (S2x128x4x64.Idx → Elt F .bf16) → Pg F β} :
    iprop(kIn I c ∗ (kIn I c -∗ Wp c (p (heads (I.k c) d)) Q)) ⊢ Wp c (loadHead kM d >>= p) Q := by
  unfold loadHead kIn
  simp only [Prog.lift, Prog.bind_op, Prog.bind_ret, Prog.pure_eq_ret]
  iintro ⟨H, Hk⟩
  have HH := wp_load (defs := defs₀ (F := F)) (Γ := []) 𝒱₀ (c : Thread nD τ) none Set.univ (Q := Q) (m := kM) (r := (headR d).toLoadRect) (hl := View.loadsAt_vmem h_S2x128x4x64)
    (k := fun a => p a) (S := Finset.univ) (q := fullShare) (f := I.k c) (Finset.subset_univ _)
  iapply HH $$ H
  iintro H
  iapply Hk
  iexact H
theorem wp_headV (d : Fin 8) {p : (S2x128x4x64.Idx → Elt F .bf16) → Pg F β} :
    iprop(vIn I c ∗ (vIn I c -∗ Wp c (p (heads (I.v c) d)) Q)) ⊢ Wp c (loadHead vM d >>= p) Q := by
  unfold loadHead vIn
  simp only [Prog.lift, Prog.bind_op, Prog.bind_ret, Prog.pure_eq_ret]
  iintro ⟨H, Hk⟩
  have HH := wp_load (defs := defs₀ (F := F)) (Γ := []) 𝒱₀ (c : Thread nD τ) none Set.univ (Q := Q) (m := vM) (r := (headR d).toLoadRect) (hl := View.loadsAt_vmem h_S2x128x4x64)
    (k := fun a => p a) (S := Finset.univ) (q := fullShare) (f := I.v c) (Finset.subset_univ _)
  iapply HH $$ H
  iintro H
  iapply Hk
  iexact H

/-- A device's own keys and values into its slot. -/
theorem wp_kvFill (k : Fin 4) (hk : evenDev k = c) (n : Pg F β) :
    iprop((kIn I c ∗ vIn I c) ∗ (∃ f, kvPts c k f) ∗ (((kIn I c ∗ vIn I c) ∗ kvPts c k (kvAll I.k I.v c)) -∗ Wp c n Q))
      ⊢ Wp c (kvFill k >>= fun _ => n) Q := by
  subst hk
  unfold kvFill
  simp only [Prog.bind_assoc]
  iintro ⟨⟨Hki, Hvi⟩, ⟨%f, Hb⟩, Hk⟩
  iapply (wp_headK I (evenDev k))
  isplitl [Hki]; · iexact Hki
  iintro Hki
  iapply (wp_putKb k 0 _ f)
  isplitl [Hb]; · iexact Hb
  iintro Hb
  iapply (wp_headV I (evenDev k))
  isplitl [Hvi]; · iexact Hvi
  iintro Hvi
  iapply (wp_putKb k 1 _ _)
  isplitl [Hb]; · iexact Hb
  iintro Hb
  iapply Hk
  isplitl [Hki Hvi]
  · isplitl [Hki] <;> iassumption
  iapply (Entails.of_eq (kvPts_congr (put_kb I.k I.v k f (evenDev k))))
  iexact Hb

/-- The keys and values of device `d`'s heads, collected and copied to it. -/
theorem wp_kvSend (k : Fin 4) (d : Fin 8) (hk : evenDev k = c) (hd : d ≠ c) (O : Tal) (n : Pg F β) :
    iprop(facts I K ∗ ((∃ f, sbPts c d f) ∗ (∃ f, kvPts d k f) ∗ dutyTok ER (cell c (some (kvs d))) 0 c ∗ dutyTok ER (cell d (some (kvr k))) 0 c)
        ∗ (debt c (O + tKv c k d) ∗ kIn I c ∗ vIn I c)
        ∗ ((cred (tallyAt (cell c (some (kvs d))) () N1) ∗ (debt c O ∗ kIn I c ∗ vIn I c)) -∗ Wp c n Q))
      ⊢ Wp c (kvSend k d >>= fun _ => n) Q := by
  unfold kvSend
  simp only [Prog.bind_assoc]
  iintro ⟨#HR, ⟨⟨%f, Hs⟩, Hd, Ht1, Ht2⟩, ⟨Ho, Hki, Hvi⟩, Hk⟩
  iapply (wp_headK I d)
  isplitl [Hki]; · iexact Hki
  iintro Hki
  iapply (wp_putSb d 0 _ f)
  isplitl [Hs]; · iexact Hs
  iintro Hs
  iapply (wp_headV I d)
  isplitl [Hvi]; · iexact Hvi
  iintro Hvi
  iapply (wp_putSb d 1 _ _)
  isplitl [Hs]; · iexact Hs
  iintro Hs
  ihave Hs' := (Entails.of_eq (sbPts_congr (put_sb (I.k c) (I.v c) d f))) $$ Hs
  simp only [Prog.lift, Prog.bind_op, Prog.bind_ret, Prog.pure_eq_ret]
  iapply (wp_kv_send I K k d hk hd O)
  isplitr; · iexact HR
  isplitl [Hs']; · iexact Hs'
  isplitl [Hd]; · iexact Hd
  isplitl [Ho]; · iexact Ho
  isplitl [Ht1]; · iexact Ht1
  isplitl [Ht2]; · iexact Ht2
  iintro ⟨Hc, Ho⟩
  iapply Hk
  isplitl [Hc]; · iexact Hc
  isplitl [Ho]; · iexact Ho
  isplitl [Hki] <;> iassumption

theorem mem_others : ∀ c d : Fin 8, d ∈ others c ↔ d ≠ c := by decide

end Ops

end Cert.KernelIdeal.Proto
-- ==== Proof.Turns.lean ====
/-
The turns of the exchange: for each list of steps of the body, what a step takes, what it gives, and that it does.
-/
module

public import proofs.«01_k».proof.Proof.Moves

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option DK → ℕ)

theorem N1_card (c d : Dev nD) (h : Even8 c ∧ d ≠ c) : N1 = (dutiesOf c (some (kvs d))).card * amountOf (some (kvs d)) := by
  show N1 = (if Even8 c ∧ d ≠ c then ({c} : Finset (Fin 8)) else ∅).card * N1
  rw [if_pos h, Finset.card_singleton, Nat.one_mul]
theorem N1_card' (c : Dev nD) (k : Fin 4) (h : evenDev k ≠ c) : N1 = (dutiesOf c (some (kvr k))).card * amountOf (some (kvr k)) := by
  show N1 = (if evenDev k = c then (∅ : Finset (Fin 8)) else {evenDev k}).card * N1
  rw [if_neg h, Finset.card_singleton, Nat.one_mul]
theorem N2_card (c d : Dev nD) (h : d ≠ c) : N2 = (dutiesOf c (some (psn d))).card * amountOf (some (psn d)) := by
  show N2 = (if d ≠ c then ({c} : Finset (Fin 8)) else ∅).card * N2
  rw [if_pos h, Finset.card_singleton, Nat.one_mul]
theorem N2_card' (c s : Dev nD) (h : s ≠ c) : N2 = (dutiesOf c (some (prc s))).card * amountOf (some (prc s)) := by
  show N2 = (if s = c then (∅ : Finset (Fin 8)) else {s}).card * N2
  rw [if_neg h, Finset.card_singleton, Nat.one_mul]

theorem sumL_cons {α : Type} (t : α → Tal) (a : α) (l : List α) : sumL t (a :: l) = sumL t l + t a := rfl

section Ops
variable (c : Dev nD) {β : Type} {Q : β → sProp (MT nD τ sig Unit (Elt F) ℕ UU ℕ)}

/-! ## The signals -/

def sigPre (p : Fin 8) : sProp 𝕄 := iprop(dutyTok ER (cell p none) 0 c ∗ barPay c p)
def sigPost (p : Fin 8) : sProp 𝕄 := if p = c then barPay c c else iprop(emp)

theorem step_sig (p : Fin 8) (l : List (Fin 8)) (n : Pg F β) :
    iprop(facts I K ∗ sigPre c p ∗ debt c (oKv c + sumL (tBar c) (p :: l)) ∗ ((sigPost c p ∗ debt c (oKv c + sumL (tBar c) l)) -∗ Wp c n Q))
      ⊢ Wp c (sigStep c p n) Q := by
  unfold sigStep sigPre sigPost
  by_cases hp : p = c
  · rw [dif_neg fun h => (condNe_iff c p).mp h hp, if_pos hp]
    iintro ⟨-, ⟨-, Hb⟩, Ho, Hk⟩
    iapply Hk
    isplitl [Hb]; · subst hp; iexact Hb
    rw [show sumL (tBar c) (p :: l) = sumL (tBar c) l from by rw [sumL_cons, show tBar c p = 0 from if_pos hp, add_zero]]
    iexact Ho
  · rw [dif_pos ((condNe_iff c p).mpr hp), if_neg hp]
    simp only [semSignalWord, Prog.lift, Prog.bind_op, Prog.bind_ret, Prog.pure_eq_ret]
    rw [show oKv c + sumL (tBar c) (p :: l) = (oKv c + sumL (tBar c) l) + tallyAt (cell p none) () 1 from by
      rw [sumL_cons, show tBar c p = tallyAt (cell p none) () 1 from if_neg hp, add_assoc]]
    iintro ⟨#HR, ⟨Ht, Hb⟩, Ho, Hk⟩
    iapply (wp_signal_bar I K c p hp (oKv c + sumL (tBar c) l))
    isplitr; · iexact HR
    isplitl [Ho]; · iexact Ho
    isplitl [Ht]; · iexact Ht
    isplitl [Hb]; · iexact Hb
    iintro Ho
    iapply Hk
    isplitr; · iempintro
    iexact Ho

/-! ## The copies of keys and values -/

def kvSendPre (k : Fin 4) (d : Fin 8) : sProp 𝕄 :=
  iprop((∃ f, sbPts c d f) ∗ (∃ f, kvPts d k f) ∗ dutyTok ER (cell c (some (kvs d))) 0 c ∗ dutyTok ER (cell d (some (kvr k))) 0 c)
def kvSendPost (d : Fin 8) : sProp 𝕄 := cred (tallyAt (cell c (some (kvs d))) () N1)
def kvBranchPre (k : Fin 4) : sProp 𝕄 := if evenDev k = c then iprop((∃ f, kvPts c k f) ∗ bigSepL (others c) (kvSendPre c k)) else iprop(emp)
def kvBranchPost (k : Fin 4) : sProp 𝕄 := if evenDev k = c then iprop(kvPts c k (kvAll I.k I.v c) ∗ bigSepL (others c) (kvSendPost c)) else iprop(emp)
def kvBranchSt (l : List (Fin 4)) : sProp 𝕄 := iprop(debt c (oPr c + sumL (tKvs c) l) ∗ kIn I c ∗ vIn I c)

theorem step_kvBranch (k : Fin 4) (l : List (Fin 4)) (n : Pg F β) :
    iprop(facts I K ∗ kvBranchPre c k ∗ kvBranchSt I c (k :: l) ∗ ((kvBranchPost I c k ∗ kvBranchSt I c l) -∗ Wp c n Q))
      ⊢ Wp c (kvBranch (place (c : Dev nD)) k n) Q := by
  unfold kvBranch kvBranchPre kvBranchPost kvBranchSt
  by_cases hk : evenDev k = c
  · rw [dif_pos ((condEq_iff c (evenDev k)).mpr hk), if_pos hk, if_pos hk]
    have ht : oPr c + sumL (tKvs c) (k :: l) = (oPr c + sumL (tKvs c) l) + sumL (tKv c k) (others c) := by
      rw [sumL_cons, show tKvs c k = sumL (tKv c k) (others (evenDev k)) from if_pos hk, hk, add_assoc]
    rw [ht, hk]
    iintro ⟨#HR, ⟨Hb, Hl⟩, ⟨Ho, Hki, Hvi⟩, Hk⟩
    iapply (wp_kvFill I k hk)
    isplitl [Hki Hvi]; · isplitl [Hki] <;> iassumption
    isplitl [Hb]; · iexact Hb
    iintro ⟨⟨Hki, Hvi⟩, Hb⟩
    iapply (wp_each c (fun d next => kvSend k d >>= fun _ => next) (facts I K) (kvSendPre c k) (kvSendPost c)
      (fun ds => iprop(debt c ((oPr c + sumL (tKvs c) l) + sumL (tKv c k) ds) ∗ kIn I c ∗ vIn I c)) (fun d => d ≠ c) Q
      (fun d hd ds n => by
        rw [show (oPr c + sumL (tKvs c) l) + sumL (tKv c k) (d :: ds) = ((oPr c + sumL (tKvs c) l) + sumL (tKv c k) ds) + tKv c k d from (add_assoc _ _ _).symm]
        exact wp_kvSend I K k d hk hd _ n) n (others c) fun d hd => (mem_others c d).mp hd)
    isplitr; · iexact HR
    isplitl [Hl]; · iexact Hl
    isplitl [Ho Hki Hvi]
    · isplitl [Ho]; · iexact Ho
      isplitl [Hki] <;> iassumption
    iintro ⟨Hl, Ho, Hki, Hvi⟩
    iapply Hk
    isplitl [Hb Hl]
    · isplitl [Hb] <;> iassumption
    isplitl [Ho]
    · rw [show (oPr c + sumL (tKvs c) l) + sumL (tKv c k) [] = oPr c + sumL (tKvs c) l from add_zero _]
      iexact Ho
    isplitl [Hki] <;> iassumption
  · rw [dif_neg fun h => hk ((condEq_iff c (evenDev k)).mp h), if_neg hk, if_neg hk]
    rw [show sumL (tKvs c) (k :: l) = sumL (tKvs c) l from by
      rw [sumL_cons, show tKvs c k = 0 from if_neg hk, add_zero]]
    iintro ⟨-, -, HS, Hk⟩
    iapply Hk
    isplitr; · iempintro
    iexact HS

/-! ## The waits for keys and values -/

def kvWaitPre (k : Fin 4) : sProp 𝕄 :=
  iprop(atPos ER (cell c (some (kvr k))) 0 ∅ 0 ∗ if evenDev k = c then kvPts c k (kvAll I.k I.v c) else cred (tallyAt (cell c (some (kvr k))) () N1))
def kvWaitPost (k : Fin 4) : sProp 𝕄 := iprop(semVal (cell c (some (kvr k))) 0 ∗ kvPts c k (kvAll I.k I.v c))

theorem rest_kvr (k : Fin 4) (hk : evenDev k ≠ c) :
    bigSep (dutiesOf c (some (kvr k))) (fun p => payOf I c p (some (kvr k))) = (kvPts c k (kvAll I.k I.v c) : sProp 𝕄) := by
  show bigSep (if evenDev k = c then ∅ else {evenDev k}) _ = _
  rw [if_neg hk, bigSep_singleton]; rfl

theorem step_kvWait (k : Fin 4) (l : List (Fin 4)) (n : Pg F β) :
    iprop(facts I K ∗ kvWaitPre I c k ∗ debt c (oPr c) ∗ ((kvWaitPost I c k ∗ debt c (oPr c)) -∗ Wp c n Q))
      ⊢ Wp c (kvWait (place (c : Dev nD)) k n) Q := by
  unfold kvWait kvWaitPre kvWaitPost
  by_cases hk : evenDev k = c
  · rw [dif_neg fun h => (condNe_iff c (evenDev k)).mp h hk, if_pos hk]
    iintro ⟨#HR, ⟨Hat, Hb⟩, Ho, Hk⟩
    have hn : dutiesOf c (some (kvr k)) = ∅ := if_pos hk
    imod (close_never I K c (some (kvr k)) hn) $$ [Hat] with Hz
    · isplitr; · iexact HR
      iexact Hat
    iapply Hk
    isplitl [Hz Hb]
    · isplitl [Hz] <;> iassumption
    iexact Ho
  · rw [dif_pos ((condNe_iff c (evenDev k)).mpr hk), if_neg hk]
    simp only [Prog.lift, Prog.bind_op, Prog.bind_ret, Prog.pure_eq_ret]
    iintro ⟨#HR, ⟨Hat, Hc⟩, Ho, Hk⟩
    have HH := wp_wait_cell I K c (Q := Q) (some (kvr k)) (n := N1)
      (w := .waitDma2 (kvRcvS k) (sbSlot 0) (kbSlot k) (sbSlot_exact 0) (kbSlot_exact k))
      (fun P => wpE_waitDma2_eq 𝒱₀ (c : Thread nD τ) none Set.univ P) (N1_card' c k hk) (oPr c) (p := fun _ => n)
    iapply HH
    isplitr; · iexact HR
    isplitl [Hc]; · iexact Hc
    isplitl [Ho]; · iexact Ho
    isplitr; · iapply (mayWait_kvr c k); iapply (facts_lev I K); iexact HR
    isplitl [Hat]; · iexact Hat
    iintro ⟨Ho, Hz, Hp⟩
    iapply Hk
    isplitl [Hz Hp]
    · isplitl [Hz]; · iexact Hz
      iapply (Entails.of_eq (rest_kvr I c k hk)); iexact Hp
    iexact Ho

/-! ## The copies of the partial result -/

def pSendPre (d : Fin 8) : sProp 𝕄 :=
  iprop(pbPts c d (parOf I c) ∗ (∃ f, acPts d c f) ∗ dutyTok ER (cell c (some (psn d))) 0 c ∗ dutyTok ER (cell d (some (prc c))) 0 c)
def pSendPost (d : Fin 8) : sProp 𝕄 := cred (tallyAt (cell c (some (psn d))) () N2)
def pBranchPre (s : Fin 8) : sProp 𝕄 :=
  if s = c then iprop((pbPts c c (parOf I c) ∗ ∃ f, acPts c c f) ∗ bigSepL (others c) (pSendPre I c)) else iprop(emp)
def pBranchPost (s : Fin 8) : sProp 𝕄 :=
  if s = c then iprop((pbPts c c (parOf I c) ∗ acPts c c (accAll (parOf I))) ∗ bigSepL (others c) (pSendPost c)) else iprop(emp)

theorem ac_load_sub (s : Fin 8) : (acM.access (acR s)).set ⊆ acSet s := by rw [← View.setOn_univ]; exact acM_sub s

theorem hz3 : (![0, 0, 0] : Fin 3 → Nat) = fun _ => 0 := funext fun a => by fin_cases a <;> rfl
theorem pb_read (f : S2x128x512.Idx → Elt F .bf16) : pbM.view.readAt (Elt F) pbR.toLoadRect f = f :=
  Memref.readAt_unit_zero (Elt F) cc0_scratch2 hz3 _ f

theorem wp_pStore {p : PUnit → Pg F β} :
    iprop((pbPts c c (parOf I c) ∗ ∃ f, acPts c c f) ∗ ((pbPts c c (parOf I c) ∗ acPts c c (accAll (parOf I))) -∗ Wp c (p ⟨⟩) Q)) ⊢ Wp c (pStore c >>= p) Q := by
  unfold pStore loadPb
  simp only [Prog.lift, Prog.bind_op, Prog.bind_ret, Prog.pure_eq_ret]
  iintro ⟨⟨Hp, ⟨%f, Ha⟩⟩, Hk⟩
  unfold pbPts acPts
  iapply (wp_load 𝒱₀ (c : Thread nD τ) none Set.univ (m := pbM) (r := pbR.toLoadRect) (Finset.subset_univ _)) $$ Hp
  iintro Hp
  rw [pb_read]
  iapply (wp_load_rect 𝒱₀ (c : Thread nD τ) none Set.univ (m := acM) (r := acR c) (ac_load_sub c)) $$ Ha
  iintro Ha
  iapply (wp_store 𝒱₀ (c : Thread nD τ) none Set.univ (m := acM) (r := acR c) (Mk := Finset.univ) (acM_sub c)) $$ Ha
  iintro Ha
  iapply Hk
  isplitl [Hp]; · iexact Hp
  ihave Ha' := (Entails.of_eq (pointsTo_congr (put_ac (parOf I) c f))) $$ Ha
  iexact Ha'

theorem step_pBranch (s : Fin 8) (l : List (Fin 8)) (n : Pg F β) :
    iprop(facts I K ∗ pBranchPre I c s ∗ debt c (sumL (tPrs c) (s :: l)) ∗ ((pBranchPost I c s ∗ debt c (sumL (tPrs c) l)) -∗ Wp c n Q))
      ⊢ Wp c (pBranch (place (c : Dev nD)) s n) Q := by
  unfold pBranch pBranchPre pBranchPost
  by_cases hs : s = c
  · rw [dif_pos ((condEq_iff c s).mpr hs), if_pos hs, if_pos hs]
    have ht : sumL (tPrs c) (s :: l) = sumL (tPrs c) l + sumL (tPr c) (others c) := by
      rw [sumL_cons, show tPrs c s = sumL (tPr c) (others s) from if_pos hs, hs]
    rw [ht]
    subst hs
    iintro ⟨#HR, ⟨Hp, Hl⟩, Ho, Hk⟩
    iapply (wp_pStore I s)
    isplitl [Hp]; · iexact Hp
    iintro Hp
    iapply (wp_each s (fun d next => pSend s d >>= fun _ => next) (facts I K) (pSendPre I s) (pSendPost s)
      (fun ds => debt s (sumL (tPrs s) l + sumL (tPr s) ds)) (fun d => d ≠ s) Q
      (fun d hd ds n => by
        rw [show sumL (tPrs s) l + sumL (tPr s) (d :: ds) = (sumL (tPrs s) l + sumL (tPr s) ds) + tPr s d from (add_assoc _ _ _).symm]
        unfold pSend pSendPre pSendPost
        simp only [Prog.lift, Prog.bind_op, Prog.bind_ret, Prog.pure_eq_ret]
        iintro ⟨#HR, ⟨H1, H2, H3, H4⟩, Ho, Hk⟩
        iapply (wp_p_send I K d hd (sumL (tPrs s) l + sumL (tPr s) ds))
        isplitr; · iexact HR
        isplitl [H1]; · iexact H1
        isplitl [H2]; · iexact H2
        isplitl [Ho]; · iexact Ho
        isplitl [H3]; · iexact H3
        isplitl [H4]; · iexact H4
        iexact Hk) n (others s) fun d hd => (mem_others s d).mp hd)
    isplitr; · iexact HR
    isplitl [Hl]; · iexact Hl
    isplitl [Ho]; · iexact Ho
    iintro ⟨Hl, Ho⟩
    iapply Hk
    isplitl [Hp Hl]
    · isplitl [Hp] <;> iassumption
    rw [show sumL (tPrs s) l + sumL (tPr s) [] = sumL (tPrs s) l from add_zero _]
    iexact Ho
  · rw [dif_neg fun h => hs ((condEq_iff c s).mp h), if_neg hs, if_neg hs]
    rw [show sumL (tPrs c) (s :: l) = sumL (tPrs c) l from by
      rw [sumL_cons, show tPrs c s = 0 from if_neg hs, add_zero]]
    iintro ⟨-, -, HS, Hk⟩
    iapply Hk
    isplitr; · iempintro
    iexact HS

/-! ## The waits for partial results -/

def pWaitPre (s : Fin 8) : sProp 𝕄 :=
  iprop(atPos ER (cell c (some (prc s))) 0 ∅ 0 ∗ if s = c then acPts c s (accAll (parOf I)) else cred (tallyAt (cell c (some (prc s))) () N2))
def pWaitPost (s : Fin 8) : sProp 𝕄 := iprop(semVal (cell c (some (prc s))) 0 ∗ acPts c s (accAll (parOf I)))

theorem rest_prc (s : Fin 8) (hs : s ≠ c) :
    bigSep (dutiesOf c (some (prc s))) (fun p => payOf I c p (some (prc s))) = (acPts c s (accAll (parOf I)) : sProp 𝕄) := by
  show bigSep (if s = c then ∅ else {s}) _ = _
  rw [if_neg hs, bigSep_singleton]; rfl

theorem step_pWait (s : Fin 8) (l : List (Fin 8)) (n : Pg F β) :
    iprop(facts I K ∗ pWaitPre I c s ∗ debt c 0 ∗ ((pWaitPost I c s ∗ debt c 0) -∗ Wp c n Q))
      ⊢ Wp c (pWait (place (c : Dev nD)) s n) Q := by
  unfold pWait pWaitPre pWaitPost
  by_cases hs : s = c
  · rw [dif_neg fun h => (condNe_iff c s).mp h hs, if_pos hs]
    iintro ⟨#HR, ⟨Hat, Hb⟩, Ho, Hk⟩
    have hn : dutiesOf c (some (prc s)) = ∅ := if_pos hs
    imod (close_never I K c (some (prc s)) hn) $$ [Hat] with Hz
    · isplitr; · iexact HR
      iexact Hat
    iapply Hk
    isplitl [Hz Hb]
    · isplitl [Hz] <;> iassumption
    iexact Ho
  · rw [dif_pos ((condNe_iff c s).mpr hs), if_neg hs]
    simp only [Prog.lift, Prog.bind_op, Prog.bind_ret, Prog.pure_eq_ret]
    iintro ⟨#HR, ⟨Hat, Hc⟩, Ho, Hk⟩
    have HH := wp_wait_cell I K c (Q := Q) (some (prc s)) (n := N2)
      (w := .waitDma2 (pRcvS s) pbM (acSlot s) (Memref.isWhole_whole _).wordExact (acSlot_exact s))
      (fun P => wpE_waitDma2_eq 𝒱₀ (c : Thread nD τ) none Set.univ P) (N2_card' c s hs) 0 (p := fun _ => n)
    iapply HH
    isplitr; · iexact HR
    isplitl [Hc]; · iexact Hc
    isplitl [Ho]; · iexact Ho
    isplitr; · iapply (mayWait_zero c); iempintro
    isplitl [Hat]; · iexact Hat
    iintro ⟨Ho, Hz, Hp⟩
    iapply Hk
    isplitl [Hz Hp]
    · isplitl [Hz]; · iexact Hz
      iapply (Entails.of_eq (rest_prc I c s hs)); iexact Hp
    iexact Ho

/-! ## The last waits -/

def kvDonePre (d : Fin 8) : sProp 𝕄 :=
  iprop(atPos ER (cell c (some (kvs d))) 0 ∅ 0 ∗ if Even8 c ∧ d ≠ c then cred (tallyAt (cell c (some (kvs d))) () N1) else iprop(∃ f, sbPts c d f))
def kvDonePost (d : Fin 8) : sProp 𝕄 := iprop(semVal (cell c (some (kvs d))) 0 ∗ ∃ f, sbPts c d f)
def pDonePre (d : Fin 8) : sProp 𝕄 :=
  iprop(atPos ER (cell c (some (psn d))) 0 ∅ 0 ∗ if d ≠ c then cred (tallyAt (cell c (some (psn d))) () N2) else pbPts c d (parOf I c))
def pDonePost (d : Fin 8) : sProp 𝕄 := iprop(semVal (cell c (some (psn d))) 0 ∗ pbPts c d (parOf I c))

theorem rest_kvs (d : Fin 8) (hd : Even8 c ∧ d ≠ c) :
    bigSep (dutiesOf c (some (kvs d))) (fun p => payOf I c p (some (kvs d))) = (sbPts c d (sendAll (I.k c) (I.v c)) : sProp 𝕄) := by
  show bigSep (if Even8 c ∧ d ≠ c then {c} else ∅) _ = _
  rw [if_pos hd, bigSep_singleton]; rfl
theorem rest_psn (d : Fin 8) (hd : d ≠ c) :
    bigSep (dutiesOf c (some (psn d))) (fun p => payOf I c p (some (psn d))) = (pbPts c d (parOf I c) : sProp 𝕄) := by
  show bigSep (if d ≠ c then {c} else ∅) _ = _
  rw [if_pos hd, bigSep_singleton]; rfl

theorem wp_kvDone (d : Fin 8) (n : Pg F β) :
    iprop(facts I K ∗ kvDonePre c d ∗ debt c 0 ∗ ((kvDonePost c d ∗ debt c 0) -∗ Wp c n Q))
      ⊢ Wp c (kvDone (place (c : Dev nD)) d n) Q := by
  unfold kvDone kvDoneIf kvDonePre kvDonePost
  by_cases hd : Even8 c ∧ d ≠ c
  · rw [dif_pos ((condSent_iff c d).mpr hd), if_pos hd]
    simp only [Prog.lift, Prog.bind_op, Prog.bind_ret, Prog.pure_eq_ret]
    iintro ⟨#HR, ⟨Hat, Hc⟩, Ho, Hk⟩
    have HH := wp_wait_cell I K c (Q := Q) (some (kvs d)) (n := N1)
      (w := .waitDma2 (kvSndS d) (kbSlot 0) (sbSlot d) (kbSlot_exact 0) (sbSlot_exact d))
      (fun P => wpE_waitDma2_eq 𝒱₀ (c : Thread nD τ) none Set.univ P) (N1_card c d hd) 0 (p := fun _ => n)
    iapply HH
    isplitr; · iexact HR
    isplitl [Hc]; · iexact Hc
    isplitl [Ho]; · iexact Ho
    isplitr; · iapply (mayWait_zero c); iempintro
    isplitl [Hat]; · iexact Hat
    iintro ⟨Ho, Hz, Hp⟩
    iapply Hk
    isplitl [Hz Hp]
    · isplitl [Hz]; · iexact Hz
      iexists (sendAll (I.k c) (I.v c))
      iapply (Entails.of_eq (rest_kvs I c d hd)); iexact Hp
    iexact Ho
  · rw [dif_neg fun h => hd ((condSent_iff c d).mp h), if_neg hd]
    iintro ⟨#HR, ⟨Hat, Hb⟩, Ho, Hk⟩
    have hn : dutiesOf c (some (kvs d)) = ∅ := if_neg hd
    imod (close_never I K c (some (kvs d)) hn) $$ [Hat] with Hz
    · isplitr; · iexact HR
      iexact Hat
    iapply Hk
    isplitl [Hz Hb]
    · isplitl [Hz] <;> iassumption
    iexact Ho

theorem wp_pDone (d : Fin 8) (n : Pg F β) :
    iprop(facts I K ∗ pDonePre I c d ∗ debt c 0 ∗ ((pDonePost I c d ∗ debt c 0) -∗ Wp c n Q))
      ⊢ Wp c (pDone (place (c : Dev nD)) d n) Q := by
  unfold pDone pDoneIf pDonePre pDonePost
  by_cases hd : d ≠ c
  · rw [dif_pos ((condNe_iff c d).mpr hd), if_pos hd]
    simp only [Prog.lift, Prog.bind_op, Prog.bind_ret, Prog.pure_eq_ret]
    iintro ⟨#HR, ⟨Hat, Hc⟩, Ho, Hk⟩
    have HH := wp_wait_cell I K c (Q := Q) (some (psn d)) (n := N2)
      (w := .waitDma2 (pSndS d) (acSlot 0) pbM (acSlot_exact 0) (Memref.isWhole_whole _).wordExact)
      (fun P => wpE_waitDma2_eq 𝒱₀ (c : Thread nD τ) none Set.univ P) (N2_card c d hd) 0 (p := fun _ => n)
    iapply HH
    isplitr; · iexact HR
    isplitl [Hc]; · iexact Hc
    isplitl [Ho]; · iexact Ho
    isplitr; · iapply (mayWait_zero c); iempintro
    isplitl [Hat]; · iexact Hat
    iintro ⟨Ho, Hz, Hp⟩
    iapply Hk
    isplitl [Hz Hp]
    · isplitl [Hz]; · iexact Hz
      iapply (Entails.of_eq (rest_psn I c d hd)); iexact Hp
    iexact Ho
  · rw [dif_neg fun h => hd ((condNe_iff c d).mp h), if_neg hd]
    iintro ⟨#HR, ⟨Hat, Hb⟩, Ho, Hk⟩
    have hn : dutiesOf c (some (psn d)) = ∅ := if_neg hd
    imod (close_never I K c (some (psn d)) hn) $$ [Hat] with Hz
    · isplitr; · iexact HR
      iexact Hat
    iapply Hk
    isplitl [Hz Hb]
    · isplitl [Hz] <;> iassumption
    iexact Ho

def donePre (d : Fin 8) : sProp 𝕄 := iprop(kvDonePre c d ∗ pDonePre I c d)
def donePost (d : Fin 8) : sProp 𝕄 := iprop(kvDonePost c d ∗ pDonePost I c d)

theorem step_done (d : Fin 8) (l : List (Fin 8)) (n : Pg F β) :
    iprop(facts I K ∗ donePre I c d ∗ debt c 0 ∗ ((donePost I c d ∗ debt c 0) -∗ Wp c n Q))
      ⊢ Wp c (kvDone (place (c : Dev nD)) d (pDone (place (c : Dev nD)) d n)) Q := by
  unfold donePre donePost
  iintro ⟨#HR, ⟨H1, H2⟩, Ho, Hk⟩
  iapply (wp_kvDone I K c d)
  isplitr; · iexact HR
  isplitl [H1]; · iexact H1
  isplitl [Ho]; · iexact Ho
  iintro ⟨H1, Ho⟩
  iapply (wp_pDone I K c d)
  isplitr; · iexact HR
  isplitl [H2]; · iexact H2
  isplitl [Ho]; · iexact Ho
  iintro ⟨H2, Ho⟩
  iapply Hk
  isplitl [H1 H2]
  · isplitl [H1] <;> iassumption
  iexact Ho

end Ops

end Cert.KernelIdeal.Proto
-- ==== Proof.Alone.lean ====
/-
The part of the body that talks to nobody: the context, row block by row block, the partial result, and the sum of the eight
partial results.
-/
module

public import proofs.«01_k».proof.Proof.Turns

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (I : Ins F)

abbrev cxLoc (c : Dev nD) : Loc nD τ sig := (c : Thread nD τ).loc cc0_scratch4
abbrev outLoc (c : Dev nD) : Loc nD τ sig := (c : Thread nD τ).loc cc0_stg5_0

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The context's rows -/

/-- The block of query rows and the head of an element of the context. -/
def cxOf (i : S2x128x4x64.Idx) : Fin 2 × Fin 4 := (⟨(i 1).val / 64, (Nat.div_lt_iff_lt_mul (by decide)).mpr (i 1).isLt⟩, i 2)

theorem cx_emb (j : Fin 2 × Fin 4) (b : Fin 2) (q : Fin 64) (e : Fin 64) :
    (cxM.access (cxR j)).emb (ix4 b q 0 e) = ix4 b ⟨64 * j.1.val + q.val, by omega⟩ j.2 e := by
  show (cxR j).emb _ = _
  funext a
  refine Fin.ext ?_
  rw [Rect.emb_apply]
  fin_cases a <;> simp [Rect.unit]

theorem cx_write_in (j : Fin 2 × Fin 4) (f : S2x128x4x64.Idx → Elt F .f32) (v : Fin 2 × Fin 4 → S2x64x1x64.Idx → Elt F .f32)
    (i : S2x128x4x64.Idx) (hi : cxOf i = j) : (cxM.access (cxR j)).write (Elt F) f (v j) Finset.univ i = ctxFrom v i := by
  obtain ⟨b, q, h, e, rfl⟩ : ∃ (b : Fin 2) (q : Fin 128) (h : Fin 4) (e : Fin 64), i = ix4 b q h e := ⟨i 0, i 1, i 2, i 3, eq_ix4 i⟩
  have h1 : j.1.val = q.val / 64 := by rw [← hi]; rfl
  have h2 : j.2 = h := by rw [← hi]; rfl
  have he : (ix4 b q h e : S2x128x4x64.Idx) = (cxM.access (cxR j)).emb (ix4 b ⟨q.val % 64, Nat.mod_lt _ (by decide)⟩ 0 e) := by
    rw [cx_emb, h2]
    congr 1
    refine Fin.ext ?_
    show q.val = 64 * j.1.val + q.val % 64
    omega
  rw [show ctxFrom v (ix4 b q h e) = v j (ix4 b ⟨q.val % 64, Nat.mod_lt _ (by decide)⟩ 0 e) from by rw [← hi]; rfl]
  rw [he]
  exact View.write_emb_of_mem _ _ (Finset.mem_univ _)

theorem cx_write_out (j : Fin 2 × Fin 4) (f : S2x128x4x64.Idx → Elt F .f32) (w : S2x64x1x64.Idx → Elt F .f32)
    (i : S2x128x4x64.Idx) (hi : cxOf i ≠ j) : (cxM.access (cxR j)).write (Elt F) f w Finset.univ i = f i := by
  refine View.write_of_not_mem _ _ _ fun h => hi ?_
  obtain ⟨x, -, rfl⟩ := Finset.mem_map.mp h
  obtain ⟨b, q, z, e, rfl⟩ : ∃ (b : Fin 2) (q : Fin 64) (z : Fin 1) (e : Fin 64), x = ix4 b q z e := ⟨x 0, x 1, x 2, x 3, eq_ix4 x⟩
  obtain rfl : z = 0 := Subsingleton.elim _ _
  rw [cx_emb]
  refine Prod.ext (Fin.ext ?_) rfl
  show (64 * j.1.val + q.val) / 64 = j.1.val
  omega

theorem mem_allCx : ∀ j : Fin 2 × Fin 4, j ∈ allCx := by decide

theorem emps {α : Type} : ∀ l : List α, (emp : sProp 𝕄) ⊢ bigSepL l fun _ => iprop(emp)
  | [] => by rw [show bigSepL [] (fun _ : α => (iprop(emp) : sProp 𝕄)) = iprop(emp) from rfl]
  | a :: l => by
    rw [bigSepL_cons']
    iintro -
    isplitr; · iempintro
    iapply (emps l)
    iempintro

section Ops
variable (c : Dev nD) {β : Type} {Q : β → sProp (MT nD τ sig Unit (Elt F) ℕ UU ℕ)}

def cxSt (v : Fin 2 × Fin 4 → S2x64x1x64.Idx → Elt F .f32) (l : List (Fin 2 × Fin 4)) : sProp 𝕄 :=
  iprop(∃ f : S2x128x4x64.Idx → Elt F .f32, ⌜∀ i, cxOf i ∉ l → f i = ctxFrom v i⌝ ∗ (cxLoc c ↦{fullShare} f))

theorem step_putCx (v : Fin 2 × Fin 4 → S2x64x1x64.Idx → Elt F .f32) (j : Fin 2 × Fin 4) (l : List (Fin 2 × Fin 4)) (n : Pg F β) :
    iprop(emp ∗ emp ∗ cxSt c v (j :: l) ∗ ((emp ∗ cxSt c v l) -∗ Wp c n Q)) ⊢ Wp c (putCx v j n) Q := by
  unfold putCx cxSt
  simp only [Prog.lift, Prog.bind_op, Prog.bind_ret, Prog.pure_eq_ret]
  iintro ⟨-, -, ⟨%f, %hf, H⟩, Hk⟩
  iapply (wp_load_rect 𝒱₀ (c : Thread nD τ) none Set.univ (m := cxM) (r := cxR j) (Finset.subset_univ _)) $$ H
  iintro H
  iapply (wp_store 𝒱₀ (c : Thread nD τ) none Set.univ (m := cxM) (r := cxR j) (Mk := Finset.univ) (Finset.subset_univ _)) $$ H
  iintro H
  iapply Hk
  isplitr; · iempintro
  iexists ((cxM.access (cxR j)).write (Elt F) f (v j) Finset.univ)
  isplitr
  · ipureintro
    intro i hi
    by_cases h : cxOf i = j
    · exact cx_write_in j f v i h
    · rw [cx_write_out j f (v j) i h]
      exact hf i fun hm => (List.mem_cons.mp hm).elim h hi
  iexact H

theorem wp_partial (f : S2x128x4x64.Idx → Elt F .f32) (n : Pg F β) :
    iprop((cxLoc c ↦{fullShare} f) ∗ woIn I c ∗ (∃ g : S2x128x512.Idx → Elt F .bf16, pbLoc c ↦{fullShare} g)
        ∗ (((cxLoc c ↦{fullShare} f) ∗ woIn I c ∗ (pbLoc c ↦{fullShare} k0_pay130 f (I.wo c))) -∗ Wp c n Q))
      ⊢ Wp c (partial' n) Q := by
  unfold partial' loadPb woIn
  simp only [Prog.lift, Prog.bind_op, Prog.bind_ret, Prog.pure_eq_ret]
  iintro ⟨Hc, Hw, ⟨%g, Hp⟩, Hk⟩
  iapply (wp_load 𝒱₀ (c : Thread nD τ) none Set.univ (m := cxM) (r := cxWholeR.toLoadRect) (Finset.subset_univ _)) $$ Hc
  iintro Hc
  iapply (wp_load 𝒱₀ (c : Thread nD τ) none Set.univ (m := woM) (r := woR.toLoadRect) (Finset.subset_univ _)) $$ Hw
  iintro Hw
  iapply (wp_load 𝒱₀ (c : Thread nD τ) none Set.univ (m := pbM) (r := pbR.toLoadRect) (Finset.subset_univ _)) $$ Hp
  iintro Hp
  iapply (wp_store 𝒱₀ (c : Thread nD τ) none Set.univ (m := pbM) (r := pbR) (Mk := Finset.univ) (Finset.subset_univ _)) $$ Hp
  iintro Hp
  rw [show cxM.view.readAt (Elt F) cxWholeR.toLoadRect f = f from Memref.readAt_unit_zero (Elt F) cc0_scratch4 hz4 _ f,
    show woM.view.readAt (Elt F) woR.toLoadRect (I.wo c) = I.wo c from Memref.readAt_unit_zero (Elt F) cc0_stg4_0 hz2 _ _,
    show (pbM.access pbR).write (Elt F) g (k0_pay130 f (I.wo c)) Finset.univ = k0_pay130 f (I.wo c) from
      Memref.write_access_unit_zero_univ (Elt F) cc0_scratch2 hz3 _ g _]
  iapply Hk
  isplitl [Hc]; · iexact Hc
  isplitl [Hw] <;> iassumption

theorem wp_attn (n : Pg F β) :
    iprop((kbLoc c ↦{fullShare} kvAll I.k I.v c) ∗ (∃ f : S2x128x4x64.Idx → Elt F .f32, cxLoc c ↦{fullShare} f) ∗ woIn I c
        ∗ (∃ g : S2x128x512.Idx → Elt F .bf16, pbLoc c ↦{fullShare} g)
        ∗ (((kbLoc c ↦{fullShare} kvAll I.k I.v c) ∗ (∃ f : S2x128x4x64.Idx → Elt F .f32, cxLoc c ↦{fullShare} f) ∗ woIn I c ∗ (pbLoc c ↦{fullShare} parOf I c)) -∗ Wp c n Q))
      ⊢ Wp c (attn (k0_pay101 (I.x c) (I.wq c)) n) Q := by
  unfold attn loadKb
  simp only [Prog.lift, Prog.bind_op, Prog.bind_ret, Prog.pure_eq_ret]
  iintro ⟨Hb, ⟨%f, Hc⟩, Hw, Hp, Hk⟩
  iapply (wp_load 𝒱₀ (c : Thread nD τ) none Set.univ (m := kbM) (r := (kbHalfR 0).toLoadRect) (Finset.subset_univ _)) $$ Hb
  iintro Hb
  iapply (wp_load 𝒱₀ (c : Thread nD τ) none Set.univ (m := kbM) (r := (kbHalfR 1).toLoadRect) (Finset.subset_univ _)) $$ Hb
  iintro Hb
  iapply (wp_each c (putCx (ctxRows I c)) (iprop(emp)) (fun _ => iprop(emp)) (fun _ => iprop(emp)) (cxSt c (ctxRows I c)) (fun _ => True) Q
    (fun j _ l n => step_putCx c (ctxRows I c) j l n) (partial' n) allCx fun _ _ => trivial)
  isplitr; · iempintro
  isplitr; · iapply (emps allCx); iempintro
  isplitl [Hc]
  · unfold cxSt
    iexists f
    isplitr
    · ipureintro; exact fun i hi => absurd (mem_allCx _) hi
    iexact Hc
  unfold cxSt
  iintro ⟨-, ⟨%g, %hg, Hc⟩⟩
  obtain rfl : g = ctxFrom (ctxRows I c) := funext fun i => hg i (List.not_mem_nil)
  iapply (wp_partial I c (ctxFrom (ctxRows I c)) n)
  isplitl [Hc]; · iexact Hc
  isplitl [Hw]; · iexact Hw
  isplitl [Hp]; · iexact Hp
  iintro ⟨Hc, Hw, Hp⟩
  iapply Hk
  isplitl [Hb]; · iexact Hb
  isplitl [Hc]; · iexists _; iexact Hc
  isplitl [Hw]; · iexact Hw
  iexact Hp

theorem wp_loadX {p : (S2x128x512.Idx → Elt F .bf16) → Pg F β} : iprop(xIn I c ∗ (xIn I c -∗ Wp c (p (I.x c)) Q)) ⊢ Wp c (loadX >>= p) Q := by
  unfold loadX xIn
  simp only [Prog.lift, Prog.bind_op, Prog.bind_ret, Prog.pure_eq_ret]
  iintro ⟨H, Hk⟩
  iapply (wp_load 𝒱₀ (c : Thread nD τ) none Set.univ (m := xM) (r := pbR.toLoadRect) (Finset.subset_univ _)) $$ H
  iintro H
  rw [show xM.view.readAt (Elt F) pbR.toLoadRect (I.x c) = I.x c from Memref.readAt_unit_zero (Elt F) cc0_stg0_0 hz3 _ _]
  iapply Hk
  iexact H
theorem wp_loadWq {p : (S512x256.Idx → Elt F .bf16) → Pg F β} : iprop(wqIn I c ∗ (wqIn I c -∗ Wp c (p (I.wq c)) Q)) ⊢ Wp c (loadWq >>= p) Q := by
  unfold loadWq wqIn
  simp only [Prog.lift, Prog.bind_op, Prog.bind_ret, Prog.pure_eq_ret]
  iintro ⟨H, Hk⟩
  iapply (wp_load 𝒱₀ (c : Thread nD τ) none Set.univ (m := wqM) (Finset.subset_univ _)) $$ H
  iintro H
  rw [show wqM.view.readAt (Elt F) (Rect.unit (s := S512x256) ![0, 0] S512x256.size inb_S512x256_S512x256_0_0).toLoadRect (I.wq c) = I.wq c from
    Memref.readAt_unit_zero (Elt F) cc0_stg1_0 hz2 _ _]
  iapply Hk
  iexact H

theorem wp_loadAc (s : Fin 8) {p : (S1x2x128x512.Idx → Elt F .bf16) → Pg F β} :
    iprop((acLoc c ↦{fullShare} accAll (parOf I)) ∗ ((acLoc c ↦{fullShare} accAll (parOf I)) -∗ Wp c (p (accRead I s)) Q)) ⊢ Wp c (loadAc s >>= p) Q := by
  unfold loadAc
  simp only [Prog.lift, Prog.bind_op, Prog.bind_ret, Prog.pure_eq_ret]
  iintro ⟨H, Hk⟩
  iapply (wp_load 𝒱₀ (c : Thread nD τ) none Set.univ (m := acM) (r := (acR s).toLoadRect) (Finset.subset_univ _)) $$ H
  iintro H
  iapply Hk
  iexact H

theorem wp_sumUp (n : Pg F β) :
    iprop((acLoc c ↦{fullShare} accAll (parOf I)) ∗ (∃ g : S2x128x512.Idx → Elt F .f32, outLoc c ↦{fullShare} g)
        ∗ (((acLoc c ↦{fullShare} accAll (parOf I)) ∗ (outLoc c ↦{fullShare} outOf I)) -∗ Wp c n Q))
      ⊢ Wp c (sumUp n) Q := by
  unfold sumUp
  iintro ⟨H, ⟨%g, Ho⟩, Hk⟩
  iapply (wp_loadAc I c 0); isplitl [H]; · iexact H
  iintro H
  iapply (wp_loadAc I c 1); isplitl [H]; · iexact H
  iintro H
  iapply (wp_loadAc I c 2); isplitl [H]; · iexact H
  iintro H
  iapply (wp_loadAc I c 3); isplitl [H]; · iexact H
  iintro H
  iapply (wp_loadAc I c 4); isplitl [H]; · iexact H
  iintro H
  iapply (wp_loadAc I c 5); isplitl [H]; · iexact H
  iintro H
  iapply (wp_loadAc I c 6); isplitl [H]; · iexact H
  iintro H
  iapply (wp_loadAc I c 7); isplitl [H]; · iexact H
  iintro H
  simp only [Prog.lift, Prog.bind_op, Prog.bind_ret, Prog.pure_eq_ret]
  iapply (wp_load 𝒱₀ (c : Thread nD τ) none Set.univ (m := outM) (r := pbR.toLoadRect) (Finset.subset_univ _)) $$ Ho
  iintro Ho
  iapply (wp_store 𝒱₀ (c : Thread nD τ) none Set.univ (m := outM) (r := pbR) (Mk := Finset.univ) (Finset.subset_univ _)) $$ Ho
  iintro Ho
  rw [show ∀ w, (outM.access pbR).write (Elt F) g w Finset.univ = w from fun w => Memref.write_access_unit_zero_univ (Elt F) cc0_stg5_0 hz3 _ g w]
  iapply Hk
  isplitl [H]; · iexact H
  iexact Ho

end Ops

end Cert.KernelIdeal.Proto
-- ==== Proof.Shuffle.lean ====
/-
Between two lists of steps a device's holdings are only rearranged: buffers cut into slots and put together again, what is
the device's own set apart from what concerns the other devices.  Each theorem here is one such rearrangement.
-/
module

public import proofs.«01_k».proof.Proof.Alone

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists -/

section Lists
variable {α : Type}

theorem sepL (A B : α → sProp 𝕄) : ∀ l : List α, bigSepL l (fun a => iprop(A a ∗ B a)) ⊢ iprop(bigSepL l A ∗ bigSepL l B)
  | [] => by
    rw [bigSepL_nil, bigSepL_nil, bigSepL_nil]
    iintro -; isplitr <;> iempintro
  | a :: l => by
    rw [bigSepL_cons', bigSepL_cons', bigSepL_cons']
    iintro ⟨⟨HA, HB⟩, H⟩
    icases (sepL A B l) $$ H with ⟨HAs, HBs⟩
    isplitl [HA HAs]
    · isplitl [HA] <;> iassumption
    isplitl [HB] <;> iassumption
theorem zipL (A B : α → sProp 𝕄) : ∀ l : List α, iprop(bigSepL l A ∗ bigSepL l B) ⊢ bigSepL l (fun a => iprop(A a ∗ B a))
  | [] => by
    rw [bigSepL_nil, bigSepL_nil, bigSepL_nil]
    iintro -; iempintro
  | a :: l => by
    rw [bigSepL_cons', bigSepL_cons', bigSepL_cons']
    iintro ⟨⟨HA, HAs⟩, HB, HBs⟩
    isplitl [HA HB]
    · isplitl [HA] <;> iassumption
    iapply (zipL A B l)
    isplitl [HAs] <;> iassumption
end Lists

theorem others_eq : ∀ c : Fin 8, Finset.univ.erase c = (others c).toFinset := by decide
theorem others_nodup : ∀ c : Fin 8, (others c).Nodup := by decide
theorem allDev_eq : (Finset.univ : Finset (Fin 8)) = allDev.toFinset := by decide
theorem allSlot_eq : (Finset.univ : Finset (Fin 4)) = allSlot.toFinset := by decide

theorem devs (Φ : Fin 8 → sProp 𝕄) : bigSep Finset.univ Φ = bigSepL allDev Φ := bigSep_univ_eq_bigSepL allDev allDev_eq (by decide) Φ
theorem slots (Φ : Fin 4 → sProp 𝕄) : bigSep Finset.univ Φ = bigSepL allSlot Φ := bigSep_univ_eq_bigSepL allSlot allSlot_eq (by decide) Φ
theorem rest_devs (c : Fin 8) (Φ : Fin 8 → sProp 𝕄) : bigSep (Finset.univ.erase c) Φ = bigSepL (others c) Φ :=
  bigSep_eq_bigSepL_of_eq (others c) (others_eq c) (others_nodup c) Φ
/-- All devices: one, and the others. -/
theorem dev_split (c : Fin 8) (Φ : Fin 8 → sProp 𝕄) : bigSepL allDev Φ = iprop(Φ c ∗ bigSepL (others c) Φ) := by
  rw [← devs, bigSep_univ_at Φ c, rest_devs]

theorem others_mono (c : Fin 8) {Φ Ψ : Fin 8 → sProp 𝕄} (h : ∀ d, d ≠ c → Φ d ⊢ Ψ d) : bigSepL (others c) Φ ⊢ bigSepL (others c) Ψ :=
  bigSepL_mono fun d hd => h d ((mem_others c d).mp hd)

theorem of_eq' {P R : sProp 𝕄} (h : P = R) : P ⊢ R := Entails.of_eq h

theorem emps_out {α : Type} (l : List α) (Φ : α → sProp 𝕄) (h : ∀ a ∈ l, Φ a = iprop(emp)) : (emp : sProp 𝕄) ⊢ bigSepL l Φ := by
  refine (emps l).trans (bigSepL_mono fun a ha => ?_)
  rw [h a ha]

/-- One device's share of a list in which the others have none. -/
theorem pick_dev (c : Fin 8) (X : Fin 8 → sProp 𝕄) : X c ⊢ bigSepL allDev fun s => if s = c then X s else iprop(emp) := by
  rw [dev_split c, if_pos rfl]
  iintro H
  isplitl [H]; · iexact H
  iapply (emps_out (others c) (fun s => if s = c then X s else iprop(emp)) fun d hd => if_neg ((mem_others c d).mp hd))
  iempintro
theorem pick_dev' (c : Fin 8) (X : Fin 8 → sProp 𝕄) : (bigSepL allDev fun s => if s = c then X s else iprop(emp)) ⊢ X c := by
  rw [dev_split c, if_pos rfl]
  iintro ⟨H, -⟩
  iexact H

theorem evenDev_inj : ∀ k k' : Fin 4, evenDev k = evenDev k' ↔ k = k' := by decide
theorem odd_ne : ∀ (c : Fin 8) (k : Fin 4), ¬ Even8 c → evenDev k ≠ c := by decide

/-! ## Buffers and their slots -/

theorem kb_cover : (Finset.univ : Finset (Fin 4)).biUnion kbSet = Finset.univ := by
  ext i; simp only [Finset.mem_biUnion, Finset.mem_univ, true_and, iff_true]
  exact ⟨i 0, mem_kbSet.mpr rfl⟩
theorem kb_apart : ∀ t ∈ (Finset.univ : Finset (Fin 4)), ∀ t' ∈ (Finset.univ : Finset (Fin 4)), t ≠ t' → Disjoint (kbSet t) (kbSet t') :=
  fun t _ t' _ h => Finset.disjoint_left.mpr fun i hi hi' => h (Fin.ext ((mem_kbSet.mp hi).symm.trans (mem_kbSet.mp hi')))
theorem sb_cover : (Finset.univ : Finset (Fin 8)).biUnion sbSet = Finset.univ := by
  ext i; simp only [Finset.mem_biUnion, Finset.mem_univ, true_and, iff_true]
  exact ⟨i 0, mem_sbSet.mpr rfl⟩
theorem sb_apart : ∀ t ∈ (Finset.univ : Finset (Fin 8)), ∀ t' ∈ (Finset.univ : Finset (Fin 8)), t ≠ t' → Disjoint (sbSet t) (sbSet t') :=
  fun t _ t' _ h => Finset.disjoint_left.mpr fun i hi hi' => h (Fin.ext ((mem_sbSet.mp hi).symm.trans (mem_sbSet.mp hi')))
theorem ac_cover : (Finset.univ : Finset (Fin 8)).biUnion acSet = Finset.univ := by
  ext i; simp only [Finset.mem_biUnion, Finset.mem_univ, true_and, iff_true]
  exact ⟨i 0, mem_acSet.mpr rfl⟩
theorem ac_apart : ∀ t ∈ (Finset.univ : Finset (Fin 8)), ∀ t' ∈ (Finset.univ : Finset (Fin 8)), t ≠ t' → Disjoint (acSet t) (acSet t') :=
  fun t _ t' _ h => Finset.disjoint_left.mpr fun i hi hi' => h (Fin.ext ((mem_acSet.mp hi).symm.trans (mem_acSet.mp hi')))

theorem kb_whole (c : Dev nD) (f : S4x2x2x128x4x64.Idx → Elt F .bf16) : (kbLoc c ↦{fullShare} f : sProp 𝕄) = bigSepL allSlot fun k => kvPts c k f := by
  have h := pointsTo_biUnion (nD := nD) (τ := τ) (sig := sig) (Ix := Unit) (Val := Elt F) (Name := ℕ) (U := UU) (Lvl := ℕ) (ℓ := kbLoc c) (q := fullShare) (f := f)
    (Finset.univ : Finset (Fin 4)) kbSet kb_apart
  rw [kb_cover] at h
  exact h.trans (slots _)
theorem sb_whole (c : Dev nD) (f : S8x2x2x128x4x64.Idx → Elt F .bf16) : (sbLoc c ↦{fullShare} f : sProp 𝕄) = bigSepL allDev fun d => sbPts c d f := by
  have h := pointsTo_biUnion (nD := nD) (τ := τ) (sig := sig) (Ix := Unit) (Val := Elt F) (Name := ℕ) (U := UU) (Lvl := ℕ) (ℓ := sbLoc c) (q := fullShare) (f := f)
    (Finset.univ : Finset (Fin 8)) sbSet sb_apart
  rw [sb_cover] at h
  exact h.trans (devs _)
theorem ac_whole (c : Dev nD) (f : S8x2x128x512.Idx → Elt F .bf16) : (acLoc c ↦{fullShare} f : sProp 𝕄) = bigSepL allDev fun d => acPts c d f := by
  have h := pointsTo_biUnion (nD := nD) (τ := τ) (sig := sig) (Ix := Unit) (Val := Elt F) (Name := ℕ) (U := UU) (Lvl := ℕ) (ℓ := acLoc c) (q := fullShare) (f := f)
    (Finset.univ : Finset (Fin 8)) acSet ac_apart
  rw [ac_cover] at h
  exact h.trans (devs _)
theorem pb_whole (c : Dev nD) (f : S2x128x512.Idx → Elt F .bf16) : (pbLoc c ↦{fullShare} f : sProp 𝕄) = bigSepL allDev fun d => pbPts c d f :=
  (ShareLeaves.pointsTo_leaves (ℓ := pbLoc c) Finset.univ f 3 fullShare).trans (devs _)

/-- Slots to send with any contents make up the buffer with some contents. -/
theorem sb_join (c : Dev nD) : (bigSepL allDev fun d => iprop(∃ f, sbPts c d f)) ⊢ (iprop(∃ f : S8x2x2x128x4x64.Idx → Elt F .bf16, sbLoc c ↦{fullShare} f) : sProp 𝕄) := by
  rw [← devs, bigSep_univ_at _ (0 : Fin 8)]
  iintro ⟨⟨%f0, H0⟩, H⟩
  haveI : Nonempty (S8x2x2x128x4x64.Idx → Elt F .bf16) := ⟨f0⟩
  ihave H' := (bigSep_exists_pi (Finset.univ.erase (0 : Fin 8)) (Y := fun _ => S8x2x2x128x4x64.Idx → Elt F .bf16) (fun d f => (sbPts c d f : sProp 𝕄))) $$ H
  icases H' with ⟨%fs, H⟩
  have hj := pointsTo_biUnion_join (nD := nD) (τ := τ) (sig := sig) (Ix := Unit) (Val := Elt F) (Name := ℕ) (U := UU) (Lvl := ℕ) (ℓ := sbLoc c) (q := fullShare)
    (Finset.univ : Finset (Fin 8)) sbSet (fun d => if d = 0 then f0 else fs d) f0 sb_apart
  rw [sb_cover, bigSep_univ_at _ (0 : Fin 8), if_pos rfl] at hj
  ihave H' := hj $$ [H0 H]
  · unfold sbPts
    isplitl [H0]; · iexact H0
    iapply (of_eq' (bigSep_congr fun d hd => (by rw [if_neg (Finset.ne_of_mem_erase hd)]) :
      bigSep (Finset.univ.erase (0 : Fin 8)) (fun d => (sbLoc c ↦[sbSet d]{fullShare} fs d : sProp 𝕄)) = bigSep (Finset.univ.erase (0 : Fin 8)) fun d => sbLoc c ↦[sbSet d]{fullShare} (if d = 0 then f0 else fs d)))
    iexact H
  icases H' with ⟨%g, -, H⟩
  iexists g
  iexact H

/-! ## The rearrangements -/

variable (I : Ins F) (c : Dev nD)

def toksSig : sProp 𝕄 := bigSepL allDev fun p => dutyTok ER (cell p none) 0 c
def toksKvs : sProp 𝕄 := bigSepL allDev fun d => dutyTok ER (cell c (some (kvs d))) 0 c
def toksKvr : sProp 𝕄 := bigSepL allDev fun d => dutyTok ER (cell d (some (kvr (slotOf c)))) 0 c
def toksPs : sProp 𝕄 := bigSepL allDev fun d => dutyTok ER (cell c (some (psn d))) 0 c
def toksPr : sProp 𝕄 := bigSepL allDev fun d => dutyTok ER (cell d (some (prc c))) 0 c

theorem kv_give (f : S4x2x2x128x4x64.Idx → Elt F .bf16) : (bigSepL allSlot fun k => kvPts c k f) ⊢ (bigSepL allDev (kvGive c) : sProp 𝕄) := by
  unfold kvGive
  simp only [allSlot, allDev, bigSepL_cons', bigSepL_nil]
  rw [if_pos (by decide), if_neg (by decide), if_pos (by decide), if_neg (by decide), if_pos (by decide), if_neg (by decide), if_pos (by decide), if_neg (by decide)]
  iintro ⟨H0, H1, H2, H3, -⟩
  isplitl [H0]; · iexists f; iexact H0
  isplitr; · iempintro
  isplitl [H1]; · iexists f; iexact H1
  isplitr; · iempintro
  isplitl [H2]; · iexists f; iexact H2
  isplitr; · iempintro
  isplitl [H3]; · iexists f; iexact H3
  isplitr <;> iempintro

theorem give_all : iprop(toksSig c ∗ (∃ f : S4x2x2x128x4x64.Idx → Elt F .bf16, kbLoc c ↦{fullShare} f) ∗ (∃ f : S8x2x128x512.Idx → Elt F .bf16, acLoc c ↦{fullShare} f))
    ⊢ (bigSepL allDev (sigPre c) : sProp 𝕄) := by
  unfold toksSig
  iintro ⟨Ht, ⟨%f, Hk⟩, ⟨%g, Ha⟩⟩
  ihave Hk := (of_eq' (kb_whole c f)) $$ Hk
  ihave Ha := (of_eq' (ac_whole c g)) $$ Ha
  ihave Hk := (kv_give c f) $$ Hk
  ihave Ha := (bigSepL_mono (l := allDev) (Ψ := fun p => (iprop(∃ f, acPts c p f) : sProp 𝕄)) fun p _ => by iintro H; iexists g; iexact H) $$ Ha
  unfold sigPre barPay
  iapply (zipL (fun p => dutyTok ER (cell p none) 0 c) (fun p => iprop((∃ f, acPts c p f) ∗ kvGive c p)) allDev)
  isplitl [Ht]; · iexact Ht
  iapply (zipL (fun p => iprop(∃ f, acPts c p f)) (fun p => kvGive c p) allDev)
  isplitl [Ha] <;> iassumption

/-- After its barrier a device holds, of every device, the places it may write there. -/
theorem got_all : iprop(bigSep (dutiesOf c none) (fun p => payOf I c p none) ∗ bigSepL allDev (sigPost c))
    ⊢ (iprop((bigSepL allDev fun p => iprop(∃ f, acPts p c f)) ∗ bigSepL allDev fun p => kvGive p c) : sProp 𝕄) := by
  rw [show bigSep (dutiesOf c none) (fun p => payOf I c p none) = bigSepL (others c) (fun p => barPay p c) from rest_devs c _]
  iintro ⟨H, Ho⟩
  unfold sigPost
  ihave Ho := (pick_dev' c fun _ => barPay c c) $$ Ho
  iapply (sepL (fun p => iprop(∃ f, acPts p c f)) (fun p => kvGive p c) allDev)
  rw [dev_split c]
  unfold barPay
  isplitl [Ho]; · iexact Ho
  iexact H

def sbKept (d : Fin 8) : sProp 𝕄 := if Even8 c ∧ d ≠ c then iprop(emp) else iprop(∃ f, sbPts c d f)
def kvOwed (d : Fin 8) : sProp 𝕄 := if Even8 c ∧ d ≠ c then cred (tallyAt (cell c (some (kvs d))) () N1) else iprop(emp)
def kvCred (k : Fin 4) : sProp 𝕄 := if evenDev k = c then iprop(emp) else cred (tallyAt (cell c (some (kvr k))) () N1)
def pCred (s : Fin 8) : sProp 𝕄 := if s = c then iprop(emp) else cred (tallyAt (cell c (some (prc s))) () N2)

theorem slot_split (k : Fin 4) (Φ : Fin 4 → sProp 𝕄) : bigSepL allSlot Φ = iprop(Φ k ∗ bigSep (Finset.univ.erase k) Φ) := by
  rw [← slots, bigSep_univ_at Φ k]

theorem pick_slot (k : Fin 4) (X : Fin 4 → sProp 𝕄) : X k ⊢ bigSepL allSlot fun s => if evenDev s = evenDev k then X s else iprop(emp) := by
  rw [slot_split k, if_pos rfl]
  iintro H
  isplitl [H]; · iexact H
  iapply (of_eq' ((bigSep_congr fun s hs => if_neg fun h => Finset.ne_of_mem_erase hs ((evenDev_inj s k).mp h)).symm :
    bigSep (Finset.univ.erase k) (fun _ => (iprop(emp) : sProp 𝕄)) = bigSep (Finset.univ.erase k) fun s => if evenDev s = evenDev k then X s else iprop(emp)))
  iapply (of_eq' (bigSep_emp_const (Finset.univ.erase k)).symm)
  iempintro
theorem pick_slot' (k : Fin 4) (X : Fin 4 → sProp 𝕄) : (bigSepL allSlot fun s => if evenDev s = evenDev k then X s else iprop(emp)) ⊢ X k := by
  rw [slot_split k, if_pos rfl]
  iintro ⟨H, -⟩
  iexact H

theorem kv_ready : iprop((bigSepL allDev fun p => kvGive p c) ∗ toksKvs c ∗ toksKvr c ∗ (∃ f : S8x2x2x128x4x64.Idx → Elt F .bf16, sbLoc c ↦{fullShare} f))
    ⊢ (iprop(bigSepL allSlot (kvBranchPre c) ∗ bigSepL allDev (sbKept c)) : sProp 𝕄) := by
  unfold toksKvs toksKvr kvGive
  iintro ⟨Hg, Ht1, Ht2, ⟨%f, Hs⟩⟩
  ihave Hs := (of_eq' (sb_whole c f)) $$ Hs
  ihave Hs := (bigSepL_mono (l := allDev) (Ψ := fun d => (iprop(∃ f, sbPts c d f) : sProp 𝕄)) fun p _ => by iintro H; iexists f; iexact H) $$ Hs
  by_cases hc : Even8 c
  · obtain ⟨k, rfl⟩ : ∃ k, c = evenDev k := ⟨slotOf c, (evenDev_slotOf c hc).symm⟩
    simp only [if_pos hc, slotOf_evenDev]
    icases (of_eq' (dev_split (evenDev k) fun p => iprop(∃ f, kvPts p k f))) $$ Hg with ⟨Hg0, Hg⟩
    icases (of_eq' (dev_split (evenDev k) _)) $$ Ht1 with ⟨-, Ht1⟩
    icases (of_eq' (dev_split (evenDev k) _)) $$ Ht2 with ⟨-, Ht2⟩
    icases (of_eq' (dev_split (evenDev k) fun d => iprop(∃ f, sbPts (evenDev k) d f))) $$ Hs with ⟨Hs0, Hs⟩
    isplitl [Hg0 Hg Ht1 Ht2 Hs]
    · unfold kvBranchPre
      iapply (pick_slot k fun s => iprop((∃ f, kvPts (evenDev k) s f) ∗ bigSepL (others (evenDev k)) (kvSendPre (evenDev k) s)))
      isplitl [Hg0]; · iexact Hg0
      unfold kvSendPre
      iapply (zipL (fun d => iprop(∃ f, sbPts (evenDev k) d f)) (fun d => iprop((∃ f, kvPts d k f) ∗ dutyTok ER (cell (evenDev k) (some (kvs d))) 0 (evenDev k) ∗ dutyTok ER (cell d (some (kvr k))) 0 (evenDev k))))
      isplitl [Hs]; · iexact Hs
      iapply (zipL (fun d => iprop(∃ f, kvPts d k f)) (fun d => iprop(dutyTok ER (cell (evenDev k) (some (kvs d))) 0 (evenDev k) ∗ dutyTok ER (cell d (some (kvr k))) 0 (evenDev k))))
      isplitl [Hg]; · iexact Hg
      iapply (zipL (fun d => dutyTok ER (cell (evenDev k) (some (kvs d))) 0 (evenDev k)) (fun d => dutyTok ER (cell d (some (kvr k))) 0 (evenDev k)))
      isplitl [Ht1] <;> iassumption
    iapply (of_eq' (dev_split (evenDev k) (sbKept (evenDev k))).symm)
    isplitl [Hs0]
    · unfold sbKept; rw [if_neg fun h => h.2 rfl]; iexact Hs0
    iapply (emps_out (others (evenDev k)) (sbKept (evenDev k)) fun d hd => if_pos ⟨hc, (mem_others _ d).mp hd⟩)
    iempintro
  · isplitr
    · iapply (emps_out allSlot (kvBranchPre c) fun k _ => if_neg (odd_ne c k hc)); iempintro
    iapply (bigSepL_mono (l := allDev) fun d _ => of_eq' (show (iprop(∃ f, sbPts c d f) : sProp 𝕄) = sbKept c d from (if_neg fun h => hc h.1).symm))
    iexact Hs

theorem kv_sent : iprop(bigSepL allSlot (kvBranchPost I c) ∗ (bigSepL allSlot fun k => atPos ER (cell c (some (kvr k))) 0 ∅ 0) ∗ bigSepL allSlot (kvCred c))
    ⊢ (iprop(bigSepL allSlot (kvWaitPre I c) ∗ bigSepL allDev (kvOwed c)) : sProp 𝕄) := by
  iintro ⟨Hb, Ha, Hc⟩
  unfold kvWaitPre
  by_cases hc : Even8 c
  · obtain ⟨k, rfl⟩ : ∃ k, c = evenDev k := ⟨slotOf c, (evenDev_slotOf c hc).symm⟩
    unfold kvBranchPost
    ihave Hb := (pick_slot' k fun s => iprop(kvPts (evenDev k) s (kvAll I.k I.v (evenDev k)) ∗ bigSepL (others (evenDev k)) (kvSendPost (evenDev k)))) $$ Hb
    icases Hb with ⟨Hb, Hs⟩
    isplitl [Hb Ha Hc]
    · iapply (zipL (fun k' => atPos ER (cell (evenDev k) (some (kvr k'))) 0 ∅ 0) _ allSlot)
      isplitl [Ha]; · iexact Ha
      icases (of_eq' (slot_split k _)) $$ Hc with ⟨-, Hc⟩
      iapply (of_eq' (slot_split k fun s => (if evenDev s = evenDev k then kvPts (evenDev k) s (kvAll I.k I.v (evenDev k)) else cred (tallyAt (cell (evenDev k) (some (kvr s))) () N1) : sProp 𝕄)).symm)
      rw [if_pos rfl]
      isplitl [Hb]; · iexact Hb
      iapply (of_eq' (bigSep_congr fun s hs => by
        unfold kvCred
        rw [if_neg fun h => Finset.ne_of_mem_erase hs ((evenDev_inj s k).mp h), if_neg fun h => Finset.ne_of_mem_erase hs ((evenDev_inj s k).mp h)] :
        bigSep (Finset.univ.erase k) (kvCred (evenDev k)) = bigSep (Finset.univ.erase k) fun s => (if evenDev s = evenDev k then kvPts (evenDev k) s (kvAll I.k I.v (evenDev k)) else cred (tallyAt (cell (evenDev k) (some (kvr s))) () N1) : sProp 𝕄)))
      iexact Hc
    iapply (of_eq' (dev_split (evenDev k) (kvOwed (evenDev k))).symm)
    isplitr
    · unfold kvOwed; rw [if_neg fun h => h.2 rfl]; iempintro
    iapply (others_mono (evenDev k) fun d hd => of_eq' (show kvSendPost (evenDev k) d = (kvOwed (evenDev k) d : sProp 𝕄) from (if_pos ⟨hc, hd⟩).symm))
    iexact Hs
  · isplitl [Ha Hc]
    · iapply (zipL (fun k => atPos ER (cell c (some (kvr k))) 0 ∅ 0) _ allSlot)
      isplitl [Ha]; · iexact Ha
      iapply (bigSepL_mono (l := allSlot) fun k _ => of_eq' (show (kvCred c k : sProp 𝕄) = if evenDev k = c then kvPts c k (kvAll I.k I.v c) else cred (tallyAt (cell c (some (kvr k))) () N1) from by
        unfold kvCred; rw [if_neg (odd_ne c k hc), if_neg (odd_ne c k hc)]))
      iexact Hc
    iapply (emps_out allDev (kvOwed c) fun d _ => if_neg fun h => hc h.1)
    iempintro

theorem kv_got : bigSepL allSlot (kvWaitPost I c) ⊢ (iprop((bigSepL allSlot fun k => semVal (cell c (some (kvr k))) 0) ∗ (kbLoc c ↦{fullShare} kvAll I.k I.v c)) : sProp 𝕄) := by
  rw [kb_whole]
  unfold kvWaitPost
  exact sepL _ _ allSlot

theorem p_ready : iprop((pbLoc c ↦{fullShare} parOf I c) ∗ (bigSepL allDev fun p => iprop(∃ f, acPts p c f)) ∗ toksPs c ∗ toksPr c)
    ⊢ (bigSepL allDev (pBranchPre I c) : sProp 𝕄) := by
  unfold toksPs toksPr
  rw [pb_whole, dev_split c, dev_split c, dev_split c, dev_split c]
  iintro ⟨⟨Hp0, Hp⟩, ⟨Ha0, Ha⟩, ⟨-, Ht1⟩, ⟨-, Ht2⟩⟩
  unfold pBranchPre
  iapply (pick_dev c fun _ => iprop((pbPts c c (parOf I c) ∗ ∃ f, acPts c c f) ∗ bigSepL (others c) (pSendPre I c)))
  isplitl [Hp0 Ha0]
  · isplitl [Hp0] <;> iassumption
  unfold pSendPre
  iapply (zipL (fun d => pbPts c d (parOf I c)) (fun d => iprop((∃ f, acPts d c f) ∗ dutyTok ER (cell c (some (psn d))) 0 c ∗ dutyTok ER (cell d (some (prc c))) 0 c)))
  isplitl [Hp]; · iexact Hp
  iapply (zipL (fun d => iprop(∃ f, acPts d c f)) (fun d => iprop(dutyTok ER (cell c (some (psn d))) 0 c ∗ dutyTok ER (cell d (some (prc c))) 0 c)))
  isplitl [Ha]; · iexact Ha
  iapply (zipL (fun d => dutyTok ER (cell c (some (psn d))) 0 c) (fun d => dutyTok ER (cell d (some (prc c))) 0 c))
  isplitl [Ht1] <;> iassumption

theorem p_sent : iprop(bigSepL allDev (pBranchPost I c) ∗ (bigSepL allDev fun s => atPos ER (cell c (some (prc s))) 0 ∅ 0) ∗ bigSepL allDev (pCred c))
    ⊢ (iprop(bigSepL allDev (pWaitPre I c) ∗ pbPts c c (parOf I c) ∗ bigSepL (others c) (pSendPost c)) : sProp 𝕄) := by
  iintro ⟨Hb, Ha, Hc⟩
  unfold pBranchPost
  ihave Hb := (pick_dev' c fun _ => iprop((pbPts c c (parOf I c) ∗ acPts c c (accAll (parOf I))) ∗ bigSepL (others c) (pSendPost c))) $$ Hb
  icases Hb with ⟨⟨Hp, Hb⟩, Hs⟩
  isplitl [Hb Ha Hc]
  · unfold pWaitPre
    iapply (zipL (fun s => atPos ER (cell c (some (prc s))) 0 ∅ 0) _ allDev)
    isplitl [Ha]; · iexact Ha
    icases (of_eq' (dev_split c (pCred c))) $$ Hc with ⟨-, Hc⟩
    iapply (of_eq' (dev_split c fun s => (if s = c then acPts c s (accAll (parOf I)) else cred (tallyAt (cell c (some (prc s))) () N2) : sProp 𝕄)).symm)
    rw [if_pos rfl]
    isplitl [Hb]; · iexact Hb
    iapply (others_mono c fun d hd => of_eq' (show (pCred c d : sProp 𝕄) = if d = c then acPts c d (accAll (parOf I)) else cred (tallyAt (cell c (some (prc d))) () N2) from by
      unfold pCred; rw [if_neg hd, if_neg hd]))
    iexact Hc
  isplitl [Hp] <;> iassumption

theorem p_got : bigSepL allDev (pWaitPost I c) ⊢ (iprop((bigSepL allDev fun s => semVal (cell c (some (prc s))) 0) ∗ (acLoc c ↦{fullShare} accAll (parOf I))) : sProp 𝕄) := by
  rw [ac_whole]
  unfold pWaitPost
  exact sepL _ _ allDev

theorem done_ready : iprop((bigSepL allDev fun d => atPos ER (cell c (some (kvs d))) 0 ∅ 0) ∗ bigSepL allDev (sbKept c) ∗ bigSepL allDev (kvOwed c)
      ∗ (bigSepL allDev fun d => atPos ER (cell c (some (psn d))) 0 ∅ 0) ∗ pbPts c c (parOf I c) ∗ bigSepL (others c) (pSendPost c))
    ⊢ (bigSepL allDev (donePre I c) : sProp 𝕄) := by
  iintro ⟨H1, H2, H3, H4, H5, H6⟩
  unfold donePre
  iapply (zipL (kvDonePre c) (pDonePre I c) allDev)
  isplitl [H1 H2 H3]
  · unfold kvDonePre
    iapply (zipL (fun d => atPos ER (cell c (some (kvs d))) 0 ∅ 0) _ allDev)
    isplitl [H1]; · iexact H1
    iapply (bigSepL_mono (l := allDev) (Φ := fun d => iprop(sbKept c d ∗ kvOwed c d)) fun d _ => by
      unfold sbKept kvOwed
      by_cases h : Even8 c ∧ d ≠ c
      · rw [if_pos h, if_pos h, if_pos h]; iintro ⟨-, H⟩; iexact H
      · rw [if_neg h, if_neg h, if_neg h]; iintro ⟨H, -⟩; iexact H)
    iapply (zipL (sbKept c) (kvOwed c) allDev)
    isplitl [H2] <;> iassumption
  unfold pDonePre
  iapply (zipL (fun d => atPos ER (cell c (some (psn d))) 0 ∅ 0) _ allDev)
  isplitl [H4]; · iexact H4
  iapply (of_eq' (dev_split c fun d => (if d ≠ c then cred (tallyAt (cell c (some (psn d))) () N2) else pbPts c d (parOf I c) : sProp 𝕄)).symm)
  rw [if_neg fun h => h rfl]
  isplitl [H5]; · iexact H5
  iapply (others_mono c fun d hd => of_eq' (show (pSendPost c d : sProp 𝕄) = if d ≠ c then cred (tallyAt (cell c (some (psn d))) () N2) else pbPts c d (parOf I c) from (if_pos hd).symm))
  iexact H6

theorem done_all : bigSepL allDev (donePost I c)
    ⊢ (iprop(((bigSepL allDev fun d => semVal (cell c (some (kvs d))) 0) ∗ ∃ f : S8x2x2x128x4x64.Idx → Elt F .bf16, sbLoc c ↦{fullShare} f)
      ∗ (bigSepL allDev fun d => semVal (cell c (some (psn d))) 0) ∗ (pbLoc c ↦{fullShare} parOf I c)) : sProp 𝕄) := by
  rw [pb_whole]
  unfold donePost
  iintro H
  icases (sepL (kvDonePost c) (pDonePost I c) allDev) $$ H with ⟨H1, H2⟩
  unfold kvDonePost pDonePost
  icases (sepL (fun d => semVal (cell c (some (kvs d))) 0) (fun d => iprop(∃ f, sbPts c d f)) allDev) $$ H1 with ⟨Hz, Hs⟩
  icases (sepL (fun d => semVal (cell c (some (psn d))) 0) (fun d => pbPts c d (parOf I c)) allDev) $$ H2 with ⟨Hz', Hp⟩
  isplitl [Hz Hs]
  · isplitl [Hz]; · iexact Hz
    iapply (sb_join c); iexact Hs
  isplitl [Hz'] <;> iassumption

end Cert.KernelIdeal.Proto
-- ==== Proof.Body.lean ====
/-
The kernel's body on one device, from what the launch deals the device to what it gives back, with the output holding the
sum of the eight devices' products.
-/
module

public import proofs.«01_k».proof.Proof.Shuffle

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def dealtToks (c : Dev nD) : sProp (MT nD τ sig Unit (Elt F) ℕ UU ℕ) := iprop(toksSig c ∗ toksKvs c ∗ toksKvr c ∗ toksPs c ∗ toksPr c)
def dealtPos (c : Dev nD) : sProp (MT nD τ sig Unit (Elt F) ℕ UU ℕ) :=
  iprop(atPos ER (cell c none) 0 ∅ 0 ∗ (bigSepL allDev fun d => atPos ER (cell c (some (kvs d))) 0 ∅ 0) ∗ (bigSepL allSlot fun k => atPos ER (cell c (some (kvr k))) 0 ∅ 0)
    ∗ (bigSepL allDev fun d => atPos ER (cell c (some (psn d))) 0 ∅ 0) ∗ (bigSepL allDev fun s => atPos ER (cell c (some (prc s))) 0 ∅ 0))
def dealtCred (c : Dev nD) : sProp (MT nD τ sig Unit (Elt F) ℕ UU ℕ) :=
  iprop(cred (tallyAt (cell c none) () 7) ∗ bigSepL allSlot (kvCred c) ∗ bigSepL allDev (pCred c))
/-- The scratch buffers, whatever they hold. -/
def scratch (c : Dev nD) : sProp (MT nD τ sig Unit (Elt F) ℕ UU ℕ) :=
  iprop((∃ f : S8x2x2x128x4x64.Idx → Elt F .bf16, sbLoc c ↦{fullShare} f) ∗ (∃ f : S4x2x2x128x4x64.Idx → Elt F .bf16, kbLoc c ↦{fullShare} f)
    ∗ (∃ f : S2x128x512.Idx → Elt F .bf16, pbLoc c ↦{fullShare} f) ∗ (∃ f : S8x2x128x512.Idx → Elt F .bf16, acLoc c ↦{fullShare} f)
    ∗ (∃ f : S2x128x4x64.Idx → Elt F .f32, cxLoc c ↦{fullShare} f))
def inputs (I : Ins F) (c : Dev nD) : sProp (MT nD τ sig Unit (Elt F) ℕ UU ℕ) := iprop(xIn I c ∗ wqIn I c ∗ kIn I c ∗ vIn I c ∗ woIn I c)
/-- Every counter of the device at zero. -/
def zeros (c : Dev nD) : sProp (MT nD τ sig Unit (Elt F) ℕ UU ℕ) :=
  iprop(semVal (cell c none) 0 ∗ (bigSepL allDev fun d => semVal (cell c (some (kvs d))) 0) ∗ (bigSepL allSlot fun k => semVal (cell c (some (kvr k))) 0)
    ∗ (bigSepL allDev fun d => semVal (cell c (some (psn d))) 0) ∗ (bigSepL allDev fun s => semVal (cell c (some (prc s))) 0))

variable (I : Ins F) (K : Dev nD × Option DK → ℕ) (c : Dev nD) {Q : PUnit → sProp (MT nD τ sig Unit (Elt F) ℕ UU ℕ)}

theorem wp_stop : Q ⟨⟩ ⊢ Wp c (pure ⟨⟩ : Pg F PUnit) Q :=
  BI.fupd_intro.trans (Entails.of_eq (Sem.wp_ret (Fr := frame) (wpE := wpE (defs₀ (F := F)) 𝒱₀ (c : Thread nD τ) none) (E := Set.univ) (a := PUnit.unit) (Q := Q)).symm)

/-- The last part: the summed output is written, the sends are waited for. -/
theorem wp_finish : iprop(facts I K ∗ bigSepL allDev (donePre I c) ∗ debt c 0 ∗ ((bigSepL allDev (donePost I c) ∗ debt c 0) -∗ Q ⟨⟩))
    ⊢ Wp c (tail0 (place (c : Dev nD))) Q := by
  unfold tail0
  iintro ⟨#HR, Hd, Ho, Hk⟩
  iapply (wp_each (c := c) (fun d next => kvDone (place (c : Dev nD)) d (pDone (place (c : Dev nD)) d next)) (facts I K) (donePre I c) (donePost I c) (fun _ => debt c 0)
    (fun _ => True) Q (fun d _ l n => step_done I K c d l n) (pure ⟨⟩) allDev fun _ _ => trivial)
  isplitr; · iexact HR
  isplitl [Hd]; · iexact Hd
  isplitl [Ho]; · iexact Ho
  iintro H
  iapply (wp_stop c)
  iapply Hk
  iexact H

/-- The exchange of the products, and their sum. -/
theorem wp_reduce :
    iprop(facts I K ∗ bigSepL allDev (pBranchPre I c) ∗ debt c (oPr c) ∗ (bigSepL allDev fun s => atPos ER (cell c (some (prc s))) 0 ∅ 0) ∗ bigSepL allDev (pCred c)
        ∗ (∃ g : S2x128x512.Idx → Elt F .f32, outLoc c ↦{fullShare} g)
        ∗ ((pbPts c c (parOf I c) ∗ bigSepL (others c) (pSendPost c) ∗ debt c 0 ∗ (bigSepL allDev fun s => semVal (cell c (some (prc s))) 0)
          ∗ (acLoc c ↦{fullShare} accAll (parOf I)) ∗ (outLoc c ↦{fullShare} outOf I)) -∗ Wp c (tail0 (place (c : Dev nD))) Q))
      ⊢ Wp c (each (pBranch (place (c : Dev nD))) (each (pWait (place (c : Dev nD))) (sumUp (tail0 (place (c : Dev nD)))) allDev) allDev) Q := by
  iintro ⟨#HR, Hb, Ho, Ha, Hc, Hout, Hk⟩
  iapply (wp_each (c := c) (pBranch (place (c : Dev nD))) (facts I K) (pBranchPre I c) (pBranchPost I c) (fun l => debt c (sumL (tPrs c) l))
    (fun _ => True) Q (fun d _ l n => step_pBranch I K c d l n) _ allDev fun _ _ => trivial)
  isplitr; · iexact HR
  isplitl [Hb]; · iexact Hb
  isplitl [Ho]; · iexact Ho
  iintro ⟨Hb, Ho⟩
  ihave Hw := (p_sent I c) $$ [Hb Ha Hc]
  · isplitl [Hb]; · iexact Hb
    isplitl [Ha] <;> iassumption
  icases Hw with ⟨Hw, Hp, Hs⟩
  iapply (wp_each (c := c) (pWait (place (c : Dev nD))) (facts I K) (pWaitPre I c) (pWaitPost I c) (fun _ => debt c 0)
    (fun _ => True) Q (fun d _ l n => step_pWait I K c d l n) _ allDev fun _ _ => trivial)
  isplitr; · iexact HR
  isplitl [Hw]; · iexact Hw
  isplitl [Ho]; · iexact Ho
  iintro ⟨Hw, Ho⟩
  icases (p_got I c) $$ Hw with ⟨Hz, Hac⟩
  iapply (wp_sumUp I c (tail0 (place (c : Dev nD))))
  isplitl [Hac]; · iexact Hac
  isplitl [Hout]; · iexact Hout
  iintro ⟨Hac, Hout⟩
  iapply Hk
  isplitl [Hp]; · iexact Hp
  isplitl [Hs]; · iexact Hs
  isplitl [Ho]; · iexact Ho
  isplitl [Hz]; · iexact Hz
  isplitl [Hac] <;> iassumption

/-- The exchange of the keys and values. -/
theorem wp_spread {n : Pg F PUnit} :
    iprop(facts I K ∗ bigSepL allSlot (kvBranchPre c) ∗ kvBranchSt I c allSlot ∗ ((bigSepL allSlot (kvBranchPost I c) ∗ kvBranchSt I c []) -∗ Wp c n Q))
      ⊢ Wp c (each (kvBranch (place (c : Dev nD))) n allSlot) Q :=
  wp_each (c := c) (kvBranch (place (c : Dev nD))) (facts I K) (kvBranchPre c) (kvBranchPost I c) (kvBranchSt I c)
    (fun _ => True) Q (fun k _ l n => step_kvBranch I K c k l n) n allSlot fun _ _ => trivial
theorem wp_gather {n : Pg F PUnit} :
    iprop(facts I K ∗ bigSepL allSlot (kvWaitPre I c) ∗ debt c (oPr c) ∗ ((bigSepL allSlot (kvWaitPost I c) ∗ debt c (oPr c)) -∗ Wp c n Q))
      ⊢ Wp c (each (kvWait (place (c : Dev nD))) n allSlot) Q :=
  wp_each (c := c) (kvWait (place (c : Dev nD))) (facts I K) (kvWaitPre I c) (kvWaitPost I c) (fun _ => debt c (oPr c))
    (fun _ => True) Q (fun k _ l n => step_kvWait I K c k l n) n allSlot fun _ _ => trivial

theorem seven : ∀ c : Fin 8, 7 = (Finset.univ.erase c : Finset (Fin 8)).card * 1 := by decide

/-- Signal every other device, and wait for them all. -/
theorem wp_meet {p : PUnit → Pg F PUnit} :
    iprop(facts I K ∗ bigSepL allDev (sigPre c) ∗ debt c (O₀ c) ∗ cred (tallyAt (cell c none) () 7) ∗ atPos ER (cell c none) 0 ∅ 0
        ∗ (((bigSepL allDev fun p => iprop(∃ f, acPts p c f)) ∗ (bigSepL allDev fun p => kvGive p c) ∗ debt c (oKv c) ∗ semVal (cell c none) 0) -∗ Wp c (p ⟨⟩) Q))
      ⊢ Wp c (each (sigStep c) (semWaitWord barS 7#32 >>= p) allDev) Q := by
  iintro ⟨#HR, Hs, Ho, Hc, Ha, Hk⟩
  iapply (wp_each (c := c) (sigStep c) (facts I K) (sigPre c) (sigPost c) (fun l => debt c (oKv c + sumL (tBar c) l))
    (fun _ => True) Q (fun d _ l n => step_sig I K c d l n) _ allDev fun _ _ => trivial)
  isplitr; · iexact HR
  isplitl [Hs]; · iexact Hs
  isplitl [Ho]; · iexact Ho
  iintro ⟨Hs, Ho⟩
  rw [show oKv c + sumL (tBar c) [] = oKv c from add_zero _]
  unfold semWaitWord
  simp only [Prog.lift, Prog.bind_op, Prog.bind_ret, Prog.pure_eq_ret]
  have hm := (facts_lev I K).trans (mayWait_bar (F := F) c)
  have HH := wp_wait_cell (Q := Q) I K c none (n := 7) (w := .semWait barS (7#32).toNat) (fun P => wpE_semWait_eq 𝒱₀ (c : Thread nD τ) none Set.univ P) (seven c) (oKv c) (p := p)
  iapply HH
  isplitr; · iexact HR
  isplitl [Hc]; · iexact Hc
  isplitl [Ho]; · iexact Ho
  isplitr; · iapply hm; iexact HR
  isplitl [Ha]; · iexact Ha
  iintro ⟨Ho, Hz, Hg⟩
  ihave Hg := (got_all I c) $$ [Hg Hs]
  · isplitl [Hg] <;> iassumption
  icases Hg with ⟨H1, H2⟩
  iapply Hk
  isplitl [H1]; · iexact H1
  isplitl [H2]; · iexact H2
  isplitl [Ho] <;> iassumption

def dealt : sProp (MT nD τ sig Unit (Elt F) ℕ UU ℕ) :=
  iprop(dealtToks c ∗ dealtPos c ∗ dealtCred c ∗ scratch c ∗ debt c (O₀ c) ∗ inputs I c ∗ ∃ g : S2x128x512.Idx → Elt F .f32, outLoc c ↦{fullShare} g)
def given : sProp (MT nD τ sig Unit (Elt F) ℕ UU ℕ) :=
  iprop(zeros c ∗ scratch c ∗ debt c 0 ∗ inputs I c ∗ (outLoc c ↦{fullShare} outOf I))

theorem wp_bodyAfter :
    iprop(facts I K ∗ bigSepL allSlot (kvBranchPre c) ∗ debt c (oKv c) ∗ bigSepL allDev (sbKept c)
        ∗ (bigSepL allDev fun d => atPos ER (cell c (some (kvs d))) 0 ∅ 0) ∗ (bigSepL allSlot fun k => atPos ER (cell c (some (kvr k))) 0 ∅ 0)
        ∗ (bigSepL allDev fun d => atPos ER (cell c (some (psn d))) 0 ∅ 0) ∗ (bigSepL allDev fun s => atPos ER (cell c (some (prc s))) 0 ∅ 0)
        ∗ bigSepL allSlot (kvCred c) ∗ bigSepL allDev (pCred c) ∗ inputs I c
        ∗ (∃ f : S2x128x512.Idx → Elt F .bf16, pbLoc c ↦{fullShare} f) ∗ (bigSepL allDev fun p => iprop(∃ f, acPts p c f)) ∗ toksPs c ∗ toksPr c
        ∗ (∃ f : S2x128x4x64.Idx → Elt F .f32, cxLoc c ↦{fullShare} f) ∗ (∃ g : S2x128x512.Idx → Elt F .f32, outLoc c ↦{fullShare} g) ∗ semVal (cell c none) 0
        ∗ (given I c -∗ Q ⟨⟩))
      ⊢ Wp c (bodyAfter (place (c : Dev nD))) Q := by
  unfold bodyAfter inputs
  iintro ⟨#HR, Hkb, Ho, Hsk, Ha1, Ha2, Ha3, Ha4, Hc1, Hc2, ⟨Hx, Hwq, Hki, Hvi, Hwo⟩, Hpb, Hac, Ht3, Ht4, Hcx, Hout, Hz0, Hk⟩
  iapply (wp_spread I K c)
  isplitr; · iexact HR
  isplitl [Hkb]; · iexact Hkb
  isplitl [Ho Hki Hvi]
  · unfold kvBranchSt
    isplitl [Ho]; · iexact Ho
    isplitl [Hki] <;> iassumption
  unfold kvBranchSt
  rw [show oPr c + sumL (tKvs c) [] = oPr c from add_zero _]
  iintro ⟨Hkb, Ho, Hki, Hvi⟩
  ihave Hkw := (kv_sent I c) $$ [Hkb Ha2 Hc1]
  · isplitl [Hkb]; · iexact Hkb
    isplitl [Ha2] <;> iassumption
  icases Hkw with ⟨Hkw, Hko⟩
  iapply (wp_loadX I c)
  isplitl [Hx]; · iexact Hx
  iintro Hx
  iapply (wp_loadWq I c)
  isplitl [Hwq]; · iexact Hwq
  iintro Hwq
  iapply (wp_gather I K c)
  isplitr; · iexact HR
  isplitl [Hkw]; · iexact Hkw
  isplitl [Ho]; · iexact Ho
  iintro ⟨Hkw, Ho⟩
  icases (kv_got I c) $$ Hkw with ⟨Hz2, Hkb⟩
  iapply (wp_attn I c)
  isplitl [Hkb]; · iexact Hkb
  isplitl [Hcx]; · iexact Hcx
  isplitl [Hwo]; · iexact Hwo
  isplitl [Hpb]; · iexact Hpb
  iintro ⟨Hkb, Hcx, Hwo, Hpb⟩
  ihave Hpr := (p_ready I c) $$ [Hpb Hac Ht3 Ht4]
  · isplitl [Hpb]; · iexact Hpb
    isplitl [Hac]; · iexact Hac
    isplitl [Ht3] <;> iassumption
  iapply (wp_reduce I K c)
  isplitr; · iexact HR
  isplitl [Hpr]; · iexact Hpr
  isplitl [Ho]; · iexact Ho
  isplitl [Ha4]; · iexact Ha4
  isplitl [Hc2]; · iexact Hc2
  isplitl [Hout]; · iexact Hout
  iintro ⟨Hpp, Hps, Ho, Hz4, Hac, Hout⟩
  iapply (wp_finish I K c)
  isplitr; · iexact HR
  isplitl [Ha1 Hsk Hko Ha3 Hpp Hps]
  · iapply (done_ready I c)
    isplitl [Ha1]; · iexact Ha1
    isplitl [Hsk]; · iexact Hsk
    isplitl [Hko]; · iexact Hko
    isplitl [Ha3]; · iexact Ha3
    isplitl [Hpp] <;> iassumption
  isplitl [Ho]; · iexact Ho
  iintro ⟨Hd, Ho⟩
  icases (done_all I c) $$ Hd with ⟨⟨Hz1, Hsb⟩, Hz3, Hpb⟩
  iapply Hk
  unfold given zeros scratch inputs
  isplitl [Hz0 Hz1 Hz2 Hz3 Hz4]
  · isplitl [Hz0]; · iexact Hz0
    isplitl [Hz1]; · iexact Hz1
    isplitl [Hz2]; · iexact Hz2
    isplitl [Hz3] <;> iassumption
  isplitl [Hsb Hkb Hpb Hac Hcx]
  · isplitl [Hsb]; · iexact Hsb
    isplitl [Hkb]; · iexists _; iexact Hkb
    isplitl [Hpb]; · iexists _; iexact Hpb
    isplitl [Hac]; · iexists _; iexact Hac
    iexact Hcx
  isplitl [Ho]; · iexact Ho
  isplitl [Hx Hwq Hki Hvi Hwo]
  · isplitl [Hx]; · iexact Hx
    isplitl [Hwq]; · iexact Hwq
    isplitl [Hki]; · iexact Hki
    isplitl [Hvi] <;> iassumption
  iexact Hout

/-- The body on device `c`. -/
theorem wp_body : iprop(facts I K ∗ dealt I c ∗ (given I c -∗ Q ⟨⟩)) ⊢ Wp c bodyP Q := by
  unfold bodyP dealt dealtToks dealtPos dealtCred scratch
  simp only [Prog.lift, Prog.bind_op, Prog.bind_ret, wp_deviceId]
  iintro ⟨#HR, ⟨⟨Ht0, Ht1, Ht2, Ht3, Ht4⟩, ⟨Ha0, Ha1, Ha2, Ha3, Ha4⟩, ⟨Hc0, Hc1, Hc2⟩, ⟨Hsb, Hkb, Hpb, Hac, Hcx⟩, Ho, Hin, Hout⟩, Hk⟩
  ihave Hs := (give_all c) $$ [Ht0 Hkb Hac]
  · isplitl [Ht0]; · iexact Ht0
    isplitl [Hkb] <;> iassumption
  iapply (wp_meet I K c)
  isplitr; · iexact HR
  isplitl [Hs]; · iexact Hs
  isplitl [Ho]; · iexact Ho
  isplitl [Hc0]; · iexact Hc0
  isplitl [Ha0]; · iexact Ha0
  iintro ⟨Hac, Hkg, Ho, Hz0⟩
  ihave Hkb := (kv_ready c) $$ [Hkg Ht1 Ht2 Hsb]
  · isplitl [Hkg]; · iexact Hkg
    isplitl [Ht1]; · iexact Ht1
    isplitl [Ht2] <;> iassumption
  icases Hkb with ⟨Hkb, Hsk⟩
  iapply (wp_bodyAfter I K c)
  isplitr; · iexact HR
  isplitl [Hkb]; · iexact Hkb
  isplitl [Ho]; · iexact Ho
  isplitl [Hsk]; · iexact Hsk
  isplitl [Ha1]; · iexact Ha1
  isplitl [Ha2]; · iexact Ha2
  isplitl [Ha3]; · iexact Ha3
  isplitl [Ha4]; · iexact Ha4
  isplitl [Hc1]; · iexact Hc1
  isplitl [Hc2]; · iexact Hc2
  isplitl [Hin]; · iexact Hin
  isplitl [Hpb]; · iexact Hpb
  isplitl [Hac]; · iexact Hac
  isplitl [Ht3]; · iexact Ht3
  isplitl [Ht4]; · iexact Ht4
  isplitl [Hcx]; · iexact Hcx
  isplitl [Hout]; · iexact Hout
  isplitl [Hz0]; · iexact Hz0
  iexact Hk

end Cert.KernelIdeal.Proto
-- ==== Proof.Deal.lean ====
/-
What the launch deals: the cells, the tokens of the duties, each with the device that pays it, and the credits, of which
every cell gets as much as the devices owe it.
-/
module

public import proofs.«01_k».proof.Proof.Body

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Keys -/

theorem keys_own (Φ : DK → sProp 𝕄) : bigSep Finset.univ Φ
    = iprop(((bigSepL allDev fun d => Φ (kvs d)) ∗ bigSepL allSlot fun k => Φ (kvr k)) ∗ ((bigSepL allDev fun d => Φ (psn d)) ∗ bigSepL allDev fun s => Φ (prc s))) := by
  rw [bigSep_univ_sum, bigSep_univ_sum, bigSep_univ_sum, devs, slots, devs, devs]
  rfl
theorem keys_all (Φ : Option DK → sProp 𝕄) : bigSep Finset.univ Φ
    = iprop(Φ none ∗ ((bigSepL allDev fun d => Φ (some (kvs d))) ∗ bigSepL allSlot fun k => Φ (some (kvr k)))
        ∗ ((bigSepL allDev fun d => Φ (some (psn d))) ∗ bigSepL allDev fun s => Φ (some (prc s)))) := by
  rw [bigSep_univ_at Φ none, show Finset.univ.erase (none : Option DK) = Finset.univ.map Function.Embedding.some from by decide, bigSep_map]
  rw [show (bigSep Finset.univ fun i : DK => Φ (Function.Embedding.some i)) = _ from keys_own fun i => Φ (some i)]

/-! ## Cells and tokens -/

def cellE : Dev nD × Option DK ↪ GSem nD τ sig := ⟨fun ck => cell ck.1 ck.2, fun _ _ h => Prod.ext (cell_inj h).1 (cell_inj h).2⟩
def theCells : Finset (GSem nD τ sig) := Finset.univ.map cellE

/-- The cell of the duty device `c` pays, by kind and place. -/
def payCell (c : Dev nD) : Fin 5 × Fin 8 → Dev nD × Option DK
  | (0, d) => (d, none)
  | (1, d) => (c, some (kvs d))
  | (2, d) => (d, some (kvr (slotOf c)))
  | (3, d) => (c, some (psn d))
  | (4, d) => (d, some (prc c))

theorem payCell_inj (c : Dev nD) : ∀ j j' : Fin 5 × Fin 8, payCell c j = payCell c j' → j = j' := by
  rintro ⟨i, d⟩ ⟨i', d'⟩ h
  fin_cases i <;> fin_cases i' <;> simp_all [payCell]

def tokE : Dev nD × (Fin 5 × Fin 8) ↪ GSem nD τ sig × ℕ × Fin 8 := ⟨fun cj => (cellE (payCell cj.1 cj.2), 0, cj.1), by
  rintro ⟨c, j⟩ ⟨c', j'⟩ h
  obtain rfl : c = c' := congrArg (fun x : GSem nD τ sig × ℕ × Fin 8 => x.2.2) h
  exact Prod.ext rfl (payCell_inj c j j' (cellE.injective (congrArg Prod.fst h)))⟩
def theToks : Finset (GSem nD τ sig × ℕ × Fin 8) := Finset.univ.map tokE

def u₀ : UU := (initOf (Pipeline.cells cfgs cellOf_inj) (Pipeline.launchToks cfgs cellOf_inj), initOf theCells theToks)

theorem toks_dealt (c : Dev nD) : (bigSep Finset.univ fun j : Fin 5 × Fin 8 => (dutyTok ER (cellE (payCell c j)) 0 c : sProp 𝕄)) = dealtToks c := by
  rw [bigSep_univ_prod, bigSep_univ_eq_bigSepL [0, 1, 2, 3, 4] (by decide) (by decide)]
  unfold dealtToks toksSig toksKvs toksKvr toksPs toksPr
  rw [← devs, ← devs, ← devs, ← devs, ← devs]
  rfl

variable (I : Ins F)

def G (c : Dev nD) : sProp (MT nD τ sig Unit (Elt F) ℕ UU ℕ) :=
  iprop((bigSep Finset.univ fun k : Option DK => roundState ER (rd I) (cell c k) 0)
    ∗ (bigSep Finset.univ fun k : Option DK => iprop(atPos ER (cell c k) 0 ∅ 0 ∗ reached ER (cell c k) 0)) ∗ dealtToks c)
/-- A device's ghost state once the cells are open. -/
def G' (c : Dev nD) : sProp (MT nD τ sig Unit (Elt F) ℕ UU ℕ) := iprop(∃ K, recs I K ∗ dealtPos c ∗ dealtToks c)

theorem fund_cells : BI.own (ER (initOf theCells theToks)) ⊢ (|==> bigSep Finset.univ (G I) : sProp 𝕄) := by
  have hX (Φ : GSem nD τ sig → sProp 𝕄) : bigSep theCells Φ = bigSep Finset.univ fun c : Dev nD => bigSep Finset.univ fun k : Option DK => Φ (cell c k) := by
    unfold theCells; rw [bigSep_map, bigSep_univ_prod]; rfl
  have hT : bigSep theToks (fun x => (dutyTok ER x.1 x.2.1 x.2.2 : sProp 𝕄)) = bigSep Finset.univ fun c : Dev nD => dealtToks c := by
    unfold theToks; rw [bigSep_map, bigSep_univ_prod]
    exact bigSep_congr fun c _ => toks_dealt c
  iintro HX
  imod (Rounds.fund ER (rd I) theCells theToks) $$ HX with ⟨Hst, Hr, Hat, Htok⟩
  imodintro
  ihave Hst := (of_eq' (hX fun g => roundState ER (rd I) g 0)) $$ Hst
  ihave Hat := (of_eq' (hX fun g => atPos ER g 0 ∅ 0)) $$ Hat
  ihave Hr := (of_eq' (hX fun g => reached ER g 0)) $$ Hr
  ihave Htok := (of_eq' hT) $$ Htok
  unfold G; simp only [bigSep_sep']
  isplitl [Hst]; · iexact Hst
  isplitl [Hat Hr]
  · isplitl [Hat] <;> iassumption
  iexact Htok

theorem unscoped_eq (c : Dev nD) : (unscopedSems0 c : sProp 𝕄) = semVal (cell c none) 0 := by
  unfold unscopedSems0; rw [bigSep_eq_bigSepL_of_eq [SemLoc.reg barS] (by decide) (by decide)]; rfl

theorem sems_keys (c : Dev nD) :
    (bigSep Finset.univ fun k : Option DK => semVal (cell c k) 0 : sProp 𝕄)
      = iprop(unscopedSems0 c ∗ Pipeline.ownSems0 (Ix := Unit) (Name := ℕ) (U := UU) (Lvl := ℕ) (Val := Elt F) (τ := τ) osem c) := by
  rw [keys_all, unscoped_eq]
  unfold Pipeline.ownSems0
  rw [keys_own]
  rfl

theorem zeros_eq (c : Dev nD) : (zeros c : sProp 𝕄)
    ⊢ iprop(unscopedSems0 c ∗ Pipeline.ownSems0 (Ix := Unit) (Name := ℕ) (U := UU) (Lvl := ℕ) (Val := Elt F) (τ := τ) osem c) := by
  rw [← sems_keys, keys_all]
  unfold zeros
  iintro ⟨H0, H1, H2, H3, H4⟩
  isplitl [H0]; · iexact H0
  isplitl [H1 H2]
  · isplitl [H1] <;> iassumption
  isplitl [H3] <;> iassumption

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (rd I) κ (cell c k)))
          ∗ (bigSep Finset.univ fun k => iprop(atPos ER (cell c k) 0 ∅ 0 ∗ reached ER (cell c k) 0)) ∗ dealtToks c) := by
  unfold G
  have hopen : iprop((bigSep Finset.univ fun k : Option DK => semVal (cell c k) 0) ∗ bigSep Finset.univ fun k : Option DK => roundState ER (rd I) (cell c k) 0)
      ⊢ (|={Set.univ}=> bigSep Finset.univ fun k => iprop(∃ κ : ℕ, cellInv ER (rd I) κ (cell c k)) : sProp 𝕄) := by
    rw [← bigSep_sep']
    exact (bigSep_mono fun k _ => (Rounds.body_intro ER (rd I) (cell c k)).trans inv_alloc).trans (bigSep_fupd _ _)
  iintro ⟨Hos, Hus, Hst, Hat, Htok⟩
  ihave Hv := (of_eq' (sems_keys (F := F) c).symm) $$ [Hos Hus]
  · isplitl [Hus] <;> iassumption
  imod hopen $$ [Hv Hst] with Hinv
  · isplitl [Hv] <;> iassumption
  imodintro
  isplitl [Hinv]; · iexact Hinv
  isplitl [Hat]; · iexact Hat
  iexact Htok

theorem share_out {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem pos_keys (c : Dev nD) : (bigSep Finset.univ fun k : Option DK => (atPos ER (cell c k) 0 ∅ 0 : sProp 𝕄)) ⊢ dealtPos c := by
  rw [keys_all]
  unfold dealtPos
  iintro ⟨H0, ⟨H1, H2⟩, H3, H4⟩
  isplitl [H0]; · iexact H0
  isplitl [H1]; · iexact H1
  isplitl [H2]; · iexact H2
  isplitl [H3] <;> iassumption

theorem ghost_intro (K : Dev nD × Option DK → ℕ) (c : Dev nD) :
    iprop(recs I K ∗ ((bigSep Finset.univ fun k : Option DK => (atPos ER (cell c k) 0 ∅ 0 : sProp 𝕄)) ∗ dealtToks c)) ⊢ G' I c := by
  unfold G'
  iintro ⟨HR, Ha, Ht⟩
  iexists K
  isplitl [HR]; · iexact HR
  isplitl [Ha]
  · iapply (pos_keys c); iexact Ha
  iexact Ht

theorem regroup :
    (bigSep Finset.univ fun c : Dev nD => iprop((bigSep Finset.univ fun k => iprop(∃ κ : ℕ, cellInv ER (rd I) κ (cell c k)))
          ∗ (bigSep Finset.univ fun k => iprop(atPos ER (cell c k) 0 ∅ 0 ∗ reached ER (cell c k) 0)) ∗ dealtToks c) : sProp 𝕄)
      ⊢ bigSep Finset.univ (G' I) := by
  rw [bigSep_sep', bigSep_sep', ← bigSep_univ_prod (fun ck : Dev nD × Option DK => iprop(∃ κ : ℕ, cellInv ER (rd I) κ (cell ck.1 ck.2))),
    bigSep_congr (s := Finset.univ) (fun (c : Dev nD) _ => bigSep_sep' Finset.univ (fun k : Option DK => (atPos ER (cell c k) 0 ∅ 0 : sProp 𝕄)) (fun k => reached ER (cell c k) 0)),
    bigSep_sep', ← bigSep_univ_prod (fun ck : Dev nD × Option DK => (reached ER (cell ck.1 ck.2) 0 : sProp 𝕄))]
  iintro ⟨HI, ⟨Hat, HR⟩, Htok⟩
  ihave HK := (BI.bigSep_exists_pi Finset.univ (fun (ck : Dev nD × Option DK) (κ : ℕ) => (cellInv ER (rd I) κ (cell ck.1 ck.2) : sProp 𝕄))) $$ HI
  icases HK with ⟨%K, HI⟩
  iapply (share_out (R := recs I K) fun c _ => ghost_intro I K c)
  isplitl [HI HR]
  · unfold recs
    rw [bigSep_sep']
    isplitl [HI] <;> iassumption
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

theorem sumL_apply {α : Type} (t : α → Tal) (g : GSem nD τ sig) (u : Unit) : ∀ l : List α, sumL t l g u = (l.map fun a => t a g u).sum
  | [] => rfl
  | a :: l => by
    rw [sumL_cons, Pi.add_apply, Finsupp.add_apply, sumL_apply t g u l, List.map_cons, List.sum_cons, Nat.add_comm]

theorem tally_cell (c d : Dev nD) (k k' : Option DK) (n : ℕ) : (tallyAt (cell d k') () n : Tal) (cell c k) () = n * if d = c ∧ k = k' then 1 else 0 := by
  rw [tallyAt_apply]
  by_cases h : d = c ∧ k = k'
  · rw [if_pos h, if_pos ⟨by rw [h.1, h.2], rfl⟩, Nat.mul_one]
  · rw [if_neg h, if_neg fun h' => h ⟨(cell_inj h'.1).1.symm, (cell_inj h'.1).2⟩, Nat.mul_zero]

def nPr (c : Fin 8) (k : Option DK) (d : Fin 8) : ℕ := (allDev.map fun s => if s = d then ((others s).map fun e => if e = c ∧ k = some (prc d) then 1 else 0).sum else 0).sum
def nKv (c : Fin 8) (k : Option DK) (d : Fin 8) : ℕ :=
  (allSlot.map fun s => if evenDev s = d then ((others (evenDev s)).map fun e => if e = c ∧ k = some (kvr s) then 1 else 0).sum else 0).sum
def nBar (c : Fin 8) (k : Option DK) (d : Fin 8) : ℕ := (allDev.map fun p => if p = d then 0 else if p = c ∧ k = none then 1 else 0).sum

theorem owed_cell (c d : Dev nD) (k : Option DK) : O₀ d (cell c k) () = N2 * nPr c k d + N1 * nKv c k d + nBar c k d := by
  unfold O₀ oKv oPr nPr nKv nBar
  rw [Pi.add_apply, Finsupp.add_apply, Pi.add_apply, Finsupp.add_apply, sumL_apply, sumL_apply, sumL_apply, ← List.sum_map_mul_left, ← List.sum_map_mul_left]
  congr 1
  · congr 1
    · congr 1
      refine List.map_congr_left fun s _ => ?_
      unfold tPrs
      by_cases h : s = d
      · rw [if_pos h, if_pos h, sumL_apply, ← List.sum_map_mul_left]
        exact congrArg List.sum (List.map_congr_left fun e _ => tally_cell c e k _ N2)
      · rw [if_neg h, if_neg h, Nat.mul_zero]; rfl
    · congr 1
      refine List.map_congr_left fun s _ => ?_
      unfold tKvs
      by_cases h : evenDev s = d
      · rw [if_pos h, if_pos h, sumL_apply, ← List.sum_map_mul_left]
        exact congrArg List.sum (List.map_congr_left fun e _ => tally_cell c e k _ N1)
      · rw [if_neg h, if_neg h, Nat.mul_zero]; rfl
  · congr 1
    refine List.map_congr_left fun p _ => ?_
    unfold tBar
    by_cases h : p = d
    · rw [if_pos h, if_pos h]; rfl
    · rw [if_neg h, if_neg h]; exact (tally_cell c p k none 1).trans (Nat.one_mul _)

def nAll (n1 n2 : ℕ) (c : Fin 8) : Option DK → ℕ
  | none => 7
  | some (.inl (.inr k)) => if evenDev k = c then 0 else n1
  | some (.inr (.inr s)) => if s = c then 0 else n2
  | _ => 0

theorem count_bar : ∀ c : Fin 8, ∑ d : Fin 8, nBar c none d = 7 := by decide +kernel
theorem count_kv : ∀ (c : Fin 8) (k : Fin 4), ∑ d : Fin 8, nKv c (some (kvr k)) d = if evenDev k = c then 0 else 1 := by decide +kernel
theorem count_pr : ∀ c s : Fin 8, ∑ d : Fin 8, nPr c (some (prc s)) d = if s = c then 0 else 1 := by decide +kernel

theorem none_pr (c d : Fin 8) (k : Option DK) (h : ∀ d, k ≠ some (prc d)) : nPr c k d = 0 := by
  unfold nPr
  refine List.sum_eq_zero fun x hx => ?_
  obtain ⟨s, -, rfl⟩ := List.mem_map.mp hx
  split
  · refine List.sum_eq_zero fun y hy => ?_
    obtain ⟨e, -, rfl⟩ := List.mem_map.mp hy
    exact if_neg fun h' => h d h'.2
  · rfl
theorem none_kv (c d : Fin 8) (k : Option DK) (h : ∀ d, k ≠ some (kvr d)) : nKv c k d = 0 := by
  unfold nKv
  refine List.sum_eq_zero fun x hx => ?_
  obtain ⟨s, -, rfl⟩ := List.mem_map.mp hx
  split
  · refine List.sum_eq_zero fun y hy => ?_
    obtain ⟨e, -, rfl⟩ := List.mem_map.mp hy
    exact if_neg fun h' => h s h'.2
  · rfl
theorem none_bar (c d : Fin 8) (k : Option DK) (h : k ≠ none) : nBar c k d = 0 := by
  unfold nBar
  refine List.sum_eq_zero fun x hx => ?_
  obtain ⟨s, -, rfl⟩ := List.mem_map.mp hx
  split
  · rfl
  · exact if_neg fun h' => h h'.2

theorem launch_cell (c : Dev nD) (k : Option DK) (n : ℕ) (h : ∑ d : Fin 8, (N2 * nPr c k d + N1 * nKv c k d + nBar c k d) = n) :
    tallyOn (cell c k) (launchCredit (Pipeline.owing O₀) 0 (cell c k)) = (tallyAt (cell c k) () n : Tal) := by
  unfold tallyAt; refine congrArg _ (Finsupp.ext fun u => ?_); cases u
  rw [Pipeline.launchCredit_owing, Finsupp.single_eq_same, Finset.sum_congr rfl fun d _ => owed_cell c d k]
  exact h

theorem launch_bar (c : Dev nD) : tallyOn (cell c none) (launchCredit (Pipeline.owing O₀) 0 (cell c none)) = (tallyAt (cell c none) () 7 : Tal) :=
  launch_cell c none 7 (by
    refine (Finset.sum_congr rfl fun d _ => ?_).trans (count_bar c)
    rw [none_pr c d none (fun _ h => by cases h), none_kv c d none (fun _ h => by cases h)]
    simp only [Nat.mul_zero, Nat.zero_add])
theorem launch_kv (c : Dev nD) (k : Fin 4) (h : evenDev k ≠ c) :
    tallyOn (cell c (some (kvr k))) (launchCredit (Pipeline.owing O₀) 0 (cell c (some (kvr k)))) = (tallyAt (cell c (some (kvr k))) () N1 : Tal) :=
  launch_cell c _ N1 (by
    refine (Finset.sum_congr rfl fun d _ => show _ = N1 * nKv c (some (kvr k)) d from ?_).trans (by rw [← Finset.mul_sum, count_kv, if_neg h, Nat.mul_one])
    rw [none_pr c d _ (fun _ h => by cases h), none_bar c d _ (fun h => by cases h)]
    simp only [Nat.mul_zero, Nat.zero_add, Nat.add_zero])
theorem launch_pr (c : Dev nD) (s : Fin 8) (h : s ≠ c) :
    tallyOn (cell c (some (prc s))) (launchCredit (Pipeline.owing O₀) 0 (cell c (some (prc s)))) = (tallyAt (cell c (some (prc s))) () N2 : Tal) :=
  launch_cell c _ N2 (by
    refine (Finset.sum_congr rfl fun d _ => show _ = N2 * nPr c (some (prc s)) d from ?_).trans (by rw [← Finset.mul_sum, count_pr, if_neg h, Nat.mul_one])
    rw [none_kv c d _ (fun _ h => by cases h), none_bar c d _ (fun h => by cases h)]
    simp only [Nat.mul_zero, Nat.add_zero])

def semE : Option DK ↪ SemLoc sig := ⟨semOf, fun _ _ h => semOf_inj h⟩

/-- What a cell is credited with at launch. -/
abbrev credAt (c : Dev nD) (k : Option DK) : sProp 𝕄 := cred (tallyOn (cell c k) (launchCredit (Pipeline.owing O₀) 0 (cell c k)))

theorem cred_kv (c : Dev nD) (k : Fin 4) : (credAt c (some (kvr k)) : sProp 𝕄) ⊢ kvCred c k := by
  unfold kvCred
  by_cases h : evenDev k = c
  · rw [if_pos h]; iintro -; iempintro
  · rw [if_neg h, ← launch_kv c k h]
theorem cred_pr (c : Dev nD) (s : Fin 8) : (credAt c (some (prc s)) : sProp 𝕄) ⊢ pCred c s := by
  unfold pCred
  by_cases h : s = c
  · rw [if_pos h]; iintro -; iempintro
  · rw [if_neg h, ← launch_pr c s h]

theorem creds_keys (c : Dev nD) : (bigSep Finset.univ (credAt c) : sProp 𝕄) ⊢ dealtCred c := by
  rw [keys_all, show (credAt c none : sProp 𝕄) = cred (tallyAt (cell c none) () 7) from by unfold credAt; rw [launch_bar]]
  unfold dealtCred
  iintro ⟨H0, ⟨-, H2⟩, -, H4⟩
  isplitl [H0]; · iexact H0
  isplitl [H2]
  · iapply (bigSepL_mono (l := allSlot) fun k _ => cred_kv c k)
    iexact H2
  iapply (bigSepL_mono (l := allDev) fun s _ => cred_pr c s)
  iexact H4

theorem creds (c : Dev nD) : (Pipeline.launchCred O₀ c : sProp 𝕄) ⊢ dealtCred c := by
  unfold Pipeline.launchCred
  refine (bigSep_subset (Finset.subset_univ (Finset.univ.map semE))).trans ?_
  rw [bigSep_map]
  exact creds_keys c

end Cert.KernelIdeal.Proto
-- ==== Proof.Launch.lean ====
/-
The launch: the kernel's run on the eight devices, from any memory with the counters at zero.
-/
module

public import proofs.«01_k».proof.Proof.Deal
public import proofs.«01_k».proof.Proof.Gen.KernelIdeal.Points
public import proofs.«01_k».proof.Proof.Gen.KernelIdeal.Launch
public import Idealize.ShloMosaic.Lib.Pipeline.CollectiveSegs

@[expose] public section

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The devices' arguments, as the windows fetch them. -/
def insOf : Ins F where
  x c := (win0_0.blk t0_0).view.read (Elt F) (m ((c : Thread nD τ).loc main_arg0))
  wq c := (win0_1.blk t0_0).view.read (Elt F) (m ((c : Thread nD τ).loc main_arg1))
  k c := (win0_2.blk t0_0).view.read (Elt F) (m ((c : Thread nD τ).loc main_arg2))
  v c := (win0_3.blk t0_0).view.read (Elt F) (m ((c : Thread nD τ).loc main_arg3))
  wo c := (win0_4.blk t0_0).view.read (Elt F) (m ((c : Thread nD τ).loc main_arg4))

def phi0 (c : Dev nD) : sProp (MT nD τ sig Unit (Elt F) ℕ UU ℕ) := iprop((G' (insOf m) c ∗ dealtCred c ∗ levAts L lv) ∗ scratch c)
def phi1 (c : Dev nD) : sProp (MT nD τ sig Unit (Elt F) ℕ UU ℕ) := iprop(zeros c ∗ scratch c)

def dats (_ : Fin 1) (c : Dev nD) : Dat τ (Elt F) Unit ℕ UU ℕ cfg0 c where
  A w := m ((cfg0.win w).arr.view.loc (c : Thread nD τ))
  after w _ := match w with
    | ⟨0, _⟩ => (insOf m).x c
    | ⟨1, _⟩ => (insOf m).wq c
    | ⟨2, _⟩ => (insOf m).k c
    | ⟨3, _⟩ => (insOf m).v c
    | ⟨4, _⟩ => (insOf m).wo c
    | ⟨5, _⟩ => outOf (insOf m)
  Φ t := match t with
    | ⟨0, _⟩ => phi0 m c
    | ⟨_ + 1, _⟩ => phi1 c
  q _ := fullShare
  owed t := match t with
    | ⟨0, _⟩ => O₀ c
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

theorem stg_of (c : Dev nD) (b : Ref sig .tc) (X : b.ty.Contents (Elt F)) : (((c : Thread nD τ).loc b) ↦{fullShare} X : sProp 𝕄) ⊢ stg c b X := by
  iintro H
  iexists X
  isplitr; · ipureintro; rfl
  iexact H
theorem of_stg (c : Dev nD) (b : Ref sig .tc) (X : b.ty.Contents (Elt F)) : (stg c b X : sProp 𝕄) ⊢ (((c : Thread nD τ).loc b) ↦{fullShare} X) := by
  iintro ⟨%f, %h, H⟩
  subst h
  iexact H

section Body
variable (c : Dev nD)

theorem before_x (d) : (dats m 0 c).before (0 : Fin 6) t0_0 d = (insOf m).x c := by unfold Dat.before; rw [if_pos (fetch0_0 t0_0)]; rfl
theorem before_wq (d) : (dats m 0 c).before (1 : Fin 6) t0_0 d = (insOf m).wq c := by unfold Dat.before; rw [if_pos (fetch0_1 t0_0)]; rfl
theorem before_k (d) : (dats m 0 c).before (2 : Fin 6) t0_0 d = (insOf m).k c := by unfold Dat.before; rw [if_pos (fetch0_2 t0_0)]; rfl
theorem before_v (d) : (dats m 0 c).before (3 : Fin 6) t0_0 d = (insOf m).v c := by unfold Dat.before; rw [if_pos (fetch0_3 t0_0)]; rfl
theorem before_wo (d) : (dats m 0 c).before (4 : Fin 6) t0_0 d = (insOf m).wo c := by unfold Dat.before; rw [if_pos (fetch0_4 t0_0)]; rfl

theorem debt_in : (dats m 0 c).owesAt () t0_0.castSucc ⊢ (debt c (O₀ c) : sProp 𝕄) := by
  unfold debt Dat.owesAt Pipeline.owesWithin
  iintro ⟨%W, -, H⟩
  iexists W
  iexact H
theorem debt_out : (debt c 0 : sProp 𝕄) ⊢ (dats m 0 c).owesAt () t0_0.succ := by
  unfold debt Dat.owesAt Pipeline.owesWithin
  iintro ⟨%W, H⟩
  iexists W
  isplitr; · ipureintro; exact fun _ _ => Or.inl trivial
  iexact H

def bodyPre : sProp (MT nD τ sig Unit (Elt F) ℕ UU ℕ) :=
  iprop(phi0 m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyPost : sProp (MT nD τ sig Unit (Elt F) ℕ UU ℕ) :=
  iprop(phi1 c ∗ (dats m 0 c).owesAt () t0_0.succ
    ∗ stg c cc0_stg0_0 ((insOf m).x c) ∗ stg c cc0_stg1_0 ((insOf m).wq c) ∗ stg c cc0_stg2_0 ((insOf m).k c)
    ∗ stg c cc0_stg3_0 ((insOf m).v c) ∗ stg c cc0_stg4_0 ((insOf m).wo c) ∗ stg c cc0_stg5_0 (outOf (insOf m)))

theorem finish : given (insOf m) c ⊢ bodyPost m c := by
  unfold given bodyPost phi1 inputs xIn wqIn kIn vIn woIn
  iintro ⟨Hz, Hs, Ho, ⟨Hx, Hwq, Hk, Hv, Hwo⟩, Hout⟩
  isplitl [Hz Hs]
  · isplitl [Hz] <;> iassumption
  isplitl [Ho]; · iapply (debt_out m c); iexact Ho
  isplitl [Hx]; · iapply (stg_of c cc0_stg0_0); iexact Hx
  isplitl [Hwq]; · iapply (stg_of c cc0_stg1_0); iexact Hwq
  isplitl [Hk]; · iapply (stg_of c cc0_stg2_0); iexact Hk
  isplitl [Hv]; · iapply (stg_of c cc0_stg3_0); iexact Hv
  isplitl [Hwo]; · iapply (stg_of c cc0_stg4_0); iexact Hwo
  iapply (stg_of c cc0_stg5_0); iexact Hout

theorem sound_body : bodyPre m c ⊢ Wp c bodyP (fun _ => bodyPost m c) := by
  unfold bodyPre phi0 G'
  simp only [before_x, before_wq, before_k, before_v, before_wo]
  iintro ⟨⟨⟨⟨%K, HR, Hp, Ht⟩, Hc, Hl⟩, Hs⟩, Ho, ⟨%d0, Hx⟩, ⟨%d1, Hwq⟩, ⟨%d2, Hk⟩, ⟨%d3, Hv⟩, ⟨%d4, Hwo⟩, ⟨%d5, Hout⟩⟩
  ihave Hx := (of_stg c cc0_stg0_0 _) $$ Hx
  ihave Hwq := (of_stg c cc0_stg1_0 _) $$ Hwq
  ihave Hk := (of_stg c cc0_stg2_0 _) $$ Hk
  ihave Hv := (of_stg c cc0_stg3_0 _) $$ Hv
  ihave Hwo := (of_stg c cc0_stg4_0 _) $$ Hwo
  ihave Hout := (of_stg c cc0_stg5_0 _) $$ Hout
  ihave Ho := (debt_in m c) $$ Ho
  iapply (wp_body (insOf m) K c)
  unfold facts dealt inputs xIn wqIn kIn vIn woIn
  isplitl [HR Hl]
  · isplitl [HR] <;> iassumption
  isplitl
  · isplitl [Ht]; · iexact Ht
    isplitl [Hp]; · iexact Hp
    isplitl [Hc]; · iexact Hc
    isplitl [Hs]; · iexact Hs
    isplitl [Ho]; · iexact Ho
    isplitl [Hx Hwq Hk Hv Hwo]
    · isplitl [Hx]; · iexact Hx
      isplitl [Hwq]; · iexact Hwq
      isplitl [Hk]; · iexact Hk
      isplitl [Hv] <;> iassumption
    iexists _
    iexact Hout
  · iintro H
    iapply (finish m c)
    iexact H

set_option maxRecDepth 4000 in
theorem body_obligation : BodyObligation (dats (F := F) m 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_eq]
  show bodyPre m c ⊢ Wp c (atBufs (cc0_body (F := F))) (fun _ => bodyPost m c)
  rw [body_eq]
  exact sound_body m c

end Body

/-! ## The side conditions -/

theorem ownSemFacts : Pipeline.OwnSemFacts cfg0.spec osem := by decide

theorem share_eq (c : Dev nD) (w : Fin cfg0.W) : (dats m 0 c).share w = fullShare := by unfold Dat.share; split <;> rfl

def start (c : Dev nD) : sProp (MT nD τ sig Unit (Elt F) ℕ UU ℕ) := iprop(G' (insOf m) c ∗ dealtCred c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem scratch_eq (c : Dev nD) : (Pipeline.scopedRest (Ix := Unit) (Name := ℕ) (U := UU) (Lvl := ℕ) (Val := Elt F) cfg0.spec c : sProp 𝕄) = scratch c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phi0 m c from rfl, scratch_eq]
  unfold phi0 start
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phi1 c from rfl, scratch_eq]
  unfold phi1
  iintro ⟨Hz, Hr⟩
  icases (zeros_eq c) $$ Hz with ⟨Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every fair run on the eight devices ends, with each window's array at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (insOf m)) (G' := G' (insOf m)) (u₀ := u₀)
    (hu₀ := by
      unfold u₀
      iintro Hu
      ihave H := (ownU_pair _ _) $$ Hu
      icases H with ⟨HP, HX⟩
      imod (fund_cells (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem finalA_in (c : Dev nD) (w : Fin cfg0.W) (h : (cfg0.win w).isOut = false) : finalA m c w = m ((cfg0.win w).arr.view.loc (c : Thread nD τ)) :=
  (dats (F := F) m 0 c).arrAt_in w h _

end Cert.KernelIdeal.Proto
-- ==== Proof.SameText.lean ====
/-
  The kernel and its idealization have the same text, so a run of one is a run of the other.
-/
module

public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

set_option maxRecDepth 100000 in
theorem body_eq : @Cert.Kernel.cc0_body F _ Cert.Kernel.Gen.facts = @Cert.KernelIdeal.cc0_body F _ Cert.KernelIdeal.Gen.facts := rfl

set_option maxRecDepth 100000 in
theorem calls_eq : Cert.Kernel.defs₀ (F := F) = Cert.KernelIdeal.defs₀ := by
  funext p ℓ a
  match p with
  | .tc =>
    match ℓ, a with
    | ⟨0, _⟩, (t, s) => rfl
  | .scScalar _ => rfl
  | .scVector _ _ => rfl

theorem defs_eq : Cert.Kernel.defs (F := F) = Cert.KernelIdeal.defs := by
  unfold Cert.Kernel.defs Cert.KernelIdeal.defs
  exact congrArg (Pipeline.defs Cert.KernelIdeal.pcfgs) calls_eq

end Cert.SameText

end
-- ==== Proof.Softmax.lean ====
/-
  The softmax of a row over the extended reals, and the two facts about it that the claim needs: keys whose score is `-∞`
  may be left out of a row that has a finite score, and the keys may be renamed.
-/
module

public import Idealize.ShloMosaic.PureOps.Ideal
public import Idealize.ShloMosaic.PureOps.Ideal.Laws

@[expose] public section

noncomputable section

namespace Cert.Attn

open Idealize.ShloMosaic

variable {ι κ : Type} [Fintype ι] [Fintype κ]

/-- The greatest score of a row. -/
def top (f : ι → EReal) : EReal := Finset.univ.fold max ⊥ f
/-- One weight of the row before it is divided. -/
def expo (f : ι → EReal) (i : ι) : EReal := Ideal.exp (f i - top f)
/-- The sum of the values, weighted by the row's softmax. -/
def att (f g : ι → EReal) : EReal := ∑ i, Ideal.div (expo f i) (∑ j, expo f j) * g i

theorem top_eq_sup (f : ι → EReal) : top f = Finset.univ.sup f := rfl

/-- Scores under a mask. -/
def masked (p : ι → Prop) [DecidablePred p] (f : ι → EReal) (i : ι) : EReal := if p i then f i else ⊥

theorem top_masked (e : κ → ι) (p : ι → Prop) [DecidablePred p] (hp : ∀ i, p i ↔ ∃ k, e k = i) (f : ι → EReal) :
    top (masked p f) = top fun k => f (e k) := by
  rw [top_eq_sup, top_eq_sup]
  apply le_antisymm
  · refine Finset.sup_le fun i _ => ?_
    unfold masked
    split
    · rename_i h
      obtain ⟨k, rfl⟩ := (hp i).1 h
      exact Finset.le_sup (f := fun k => f (e k)) (Finset.mem_univ k)
    · exact bot_le
  · refine Finset.sup_le fun k _ => ?_
    have h : p (e k) := (hp _).2 ⟨k, rfl⟩
    have := Finset.le_sup (f := masked p f) (Finset.mem_univ (e k))
    rwa [masked, if_pos h] at this

theorem exp_bot : Ideal.exp ⊥ = 0 := rfl

theorem expo_masked_off (p : ι → Prop) [DecidablePred p] (f : ι → EReal) (i : ι) (h : ¬ p i) : expo (masked p f) i = 0 := by
  rw [expo, masked, if_neg h, EReal.bot_sub, exp_bot]

theorem sum_off (e : κ → ι) (he : Function.Injective e) (p : ι → Prop) (hp : ∀ i, p i ↔ ∃ k, e k = i) (F : ι → EReal)
    (h0 : ∀ i, ¬ p i → F i = 0) : ∑ i, F i = ∑ k, F (e k) := by
  classical
  rw [← Finset.sum_image (s := Finset.univ) (g := e) (f := F) fun a _ b _ h => he h]
  symm
  refine Finset.sum_subset (Finset.subset_univ _) fun i _ hi => h0 i fun h => hi ?_
  obtain ⟨k, rfl⟩ := (hp i).1 h
  exact Finset.mem_image_of_mem _ (Finset.mem_univ _)

theorem sum_expo_masked (e : κ → ι) (he : Function.Injective e) (p : ι → Prop) [DecidablePred p] (hp : ∀ i, p i ↔ ∃ k, e k = i)
    (f : ι → EReal) : ∑ i, expo (masked p f) i = ∑ k, expo (fun k => f (e k)) k := by
  rw [sum_off e he p hp _ (expo_masked_off p f)]
  refine Finset.sum_congr rfl fun k _ => ?_
  rw [expo, expo, top_masked e p hp, masked, if_pos ((hp _).2 ⟨k, rfl⟩)]

/-- A row of finite scores has a weight that is not zero, so the sum of its weights is not zero. -/
theorem sum_expo_ne [Nonempty κ] (f : κ → EReal) (hf : ∀ k, f k ≠ ⊥ ∧ f k ≠ ⊤) : ∑ k, expo f k ≠ 0 := by
  obtain ⟨k, -, hk⟩ := Finset.exists_mem_eq_sup (Finset.univ : Finset κ) Finset.univ_nonempty f
  have hnn : ∀ k, 0 ≤ expo f k := fun k => by
    unfold expo
    generalize f k - top f = x
    induction x with
    | bot => exact le_refl _
    | top => exact le_top
    | coe r => exact EReal.coe_nonneg.2 (Real.exp_pos r).le
  have h1 : expo f k = 1 := by
    rw [expo, top_eq_sup, hk, EReal.sub_self (hf k).2 (hf k).1]
    show ((Real.exp 0 : ℝ) : EReal) = 1
    rw [Real.exp_zero]; rfl
  intro h
  have := Finset.single_le_sum (f := expo f) (fun i _ => hnn i) (Finset.mem_univ k)
  rw [h, h1] at this
  exact absurd this (not_le.2 zero_lt_one)

/-- Keys under the mask may be left out of a row whose other scores are finite. -/
theorem att_masked [Nonempty κ] (e : κ → ι) (he : Function.Injective e) (p : ι → Prop) [DecidablePred p] (hp : ∀ i, p i ↔ ∃ k, e k = i)
    (f g : ι → EReal) (hf : ∀ k, f (e k) ≠ ⊥ ∧ f (e k) ≠ ⊤) :
    att (masked p f) g = att (fun k => f (e k)) fun k => g (e k) := by
  have hne := sum_expo_ne (fun k => f (e k)) hf
  unfold att
  rw [sum_expo_masked e he p hp f]
  rw [sum_off e he p hp _ fun i hi => by rw [expo_masked_off p f i hi, Ideal.div, if_neg hne, zero_mul, zero_mul]]
  refine Finset.sum_congr rfl fun k _ => ?_
  rw [show expo (masked p f) (e k) = expo (fun k => f (e k)) k from by
    rw [expo, expo, top_masked e p hp, masked, if_pos ((hp _).2 ⟨k, rfl⟩)]]

/-- A finite sum of products of finite numbers is finite. -/
def IsFin (x : EReal) : Prop := x ≠ ⊥ ∧ x ≠ ⊤

theorem fin_iff (x : EReal) : IsFin x ↔ ∃ r : ℝ, x = r := by
  constructor
  · rintro ⟨h1, h2⟩
    induction x with
    | bot => exact absurd rfl h1
    | top => exact absurd rfl h2
    | coe r => exact ⟨r, rfl⟩
  · rintro ⟨r, rfl⟩
    exact ⟨EReal.coe_ne_bot r, EReal.coe_ne_top r⟩

theorem fin_mul {x y : EReal} (hx : IsFin x) (hy : IsFin y) : IsFin (x * y) := by
  obtain ⟨a, rfl⟩ := (fin_iff x).1 hx
  obtain ⟨b, rfl⟩ := (fin_iff y).1 hy
  exact (fin_iff _).2 ⟨a * b, (EReal.coe_mul a b).symm⟩

theorem fin_add {x y : EReal} (hx : IsFin x) (hy : IsFin y) : IsFin (x + y) := by
  obtain ⟨a, rfl⟩ := (fin_iff x).1 hx
  obtain ⟨b, rfl⟩ := (fin_iff y).1 hy
  exact (fin_iff _).2 ⟨a + b, (EReal.coe_add a b).symm⟩

theorem fin_sum (F : ι → EReal) (h : ∀ i, IsFin (F i)) : IsFin (∑ i, F i) :=
  Finset.sum_induction F IsFin (fun _ _ => fin_add) ((fin_iff 0).2 ⟨0, rfl⟩) fun i _ => h i

end Cert.Attn

end
-- ==== Proof.Spec.lean ====
/-
  What the problem computes, over the extended reals and the whole arrays: the attention of every head over the keys whose
  block of sixty-four has the query block's remainder, and the projection of the context.
-/
module

public import proofs.«01_k».proof.Proof.Softmax
public import Idealize.ShloMosaic.Lib.Pointwise

@[expose] public section

noncomputable section

namespace Cert.Attn

open Idealize.ShloMosaic

/-- The factor that the scores are multiplied by. -/
abbrev eighth : EReal := Ideal.ofBits .f32 0x3E000000#32

theorem eighth_fin : IsFin eighth := by
  refine (fin_iff _).2 ⟨(1 / 8 : ℝ), ?_⟩
  simp [eighth, Ideal.ofBits, Ideal.ieee, -EReal.coe_mul]; norm_num

theorem bits_bot : Ideal.ofBits .f32 0xFF800000#32 = (⊥ : EReal) := by simp [Ideal.ofBits, Ideal.ieee]

/-- The whole arrays. -/
structure Whole where
  x : (⟨3, ![2, 128, 512]⟩ : Shape).Idx → EReal
  wq : (⟨2, ![512, 2048]⟩ : Shape).Idx → EReal
  k : (⟨4, ![2, 1024, 32, 64]⟩ : Shape).Idx → EReal
  v : (⟨4, ![2, 1024, 32, 64]⟩ : Shape).Idx → EReal
  wo : (⟨2, ![2048, 512]⟩ : Shape).Idx → EReal

variable (W : Whole)

/-- A query's entry, -/
def query (b : Fin 2) (s : Fin 128) (h : Fin 32) (d : Fin 64) : EReal := ∑ m : Fin 512, W.x (ix3 b s m) * W.wq (ix2 m ⟨h.val * 64 + d.val, by omega⟩)
/-- the score of key `j` against it, -/
def score (b : Fin 2) (s : Fin 128) (h : Fin 32) (j : Fin 1024) : EReal := (∑ d : Fin 64, query W b s h d * W.k (ix4 b j h d)) * eighth
/-- the keys that a query attends to, in order: four blocks of sixty-four, -/
def keyOf (s : Fin 128) (j : Fin 256) : Fin 1024 := ⟨256 * (j.val / 64) + 64 * (s.val / 64) + j.val % 64, by omega⟩
/-- a context's entry, -/
def ctx (b : Fin 2) (s : Fin 128) (h : Fin 32) (e : Fin 64) : EReal :=
  att (fun j => score W b s h (keyOf s j)) fun j => W.v (ix4 b (keyOf s j) h e)
/-- and the result's. -/
def result (b : Fin 2) (s : Fin 128) (n : Fin 512) : EReal :=
  ∑ t : Fin 2048, ctx W b s ⟨t.val / 64, by omega⟩ ⟨t.val % 64, by omega⟩ * W.wo (ix2 t n)

/-- A query attends to the keys whose block has its own block's remainder by four. -/
def Kept (s : Fin 128) (j : Fin 1024) : Prop := j.val / 64 % 4 = s.val / 64
instance (s : Fin 128) : DecidablePred (Kept s) := fun j => inferInstanceAs (Decidable (j.val / 64 % 4 = s.val / 64))

theorem kept_iff (s : Fin 128) (i : Fin 1024) : Kept s i ↔ ∃ j, keyOf s j = i := by
  unfold Kept keyOf
  constructor
  · intro h
    refine ⟨⟨64 * (i.val / 256) + i.val % 64, by omega⟩, Fin.ext ?_⟩
    simp only
    omega
  · rintro ⟨j, rfl⟩
    simp only
    omega

theorem keyOf_inj (s : Fin 128) : Function.Injective (keyOf s) := fun a b h => Fin.ext (by
  have := congrArg Fin.val h
  simp only [keyOf] at this
  omega)

/-- The scores are finite where queries' and keys' factors are. -/
theorem score_fin (hx : ∀ i, IsFin (W.x i)) (hq : ∀ i, IsFin (W.wq i)) (hk : ∀ i, IsFin (W.k i)) (b : Fin 2) (s : Fin 128) (h : Fin 32) (j : Fin 1024) :
    IsFin (score W b s h j) :=
  fin_mul (fin_sum _ fun d => fin_mul (fin_sum _ fun m => fin_mul (hx _) (hq _)) (hk _)) eighth_fin

/-- Attending to all keys under the mask is attending to the kept ones. -/
theorem ctx_masked (hx : ∀ i, IsFin (W.x i)) (hq : ∀ i, IsFin (W.wq i)) (hk : ∀ i, IsFin (W.k i)) (b : Fin 2) (s : Fin 128) (h : Fin 32) (e : Fin 64) :
    att (masked (Kept s) (score W b s h)) (fun j => W.v (ix4 b j h e)) = ctx W b s h e :=
  att_masked (keyOf s) (keyOf_inj s) (Kept s) (kept_iff s) _ _ fun j => score_fin W hx hq hk b s h _

/-- The sum over the context's columns, device by device. -/
theorem result_split (b : Fin 2) (s : Fin 128) (n : Fin 512) :
    result W b s n = ∑ d : Fin 8, ∑ t : Fin 256, ctx W b s ⟨4 * d.val + t.val / 64, by omega⟩ ⟨t.val % 64, by omega⟩ * W.wo (ix2 ⟨256 * d.val + t.val, by omega⟩ n) := by
  unfold result
  rw [← Equiv.sum_comp (finProdFinEquiv (m := 8) (n := 256)), Fintype.sum_prod_type]
  refine Finset.sum_congr rfl fun d _ => Finset.sum_congr rfl fun t _ => ?_
  have hv : (finProdFinEquiv (d, t)).val = 256 * d.val + t.val := by simp [finProdFinEquiv]; omega
  congr 2
  · apply Fin.ext; simp only; rw [hv]; omega
  · apply Fin.ext; simp only; rw [hv]; omega
  · congr 1; exact Fin.ext hv

end Cert.Attn

end
-- ==== Proof.Keys.lean ====
/-
  The kernel's attention read at an index: the keys and values of one block of sixty-four queries are the rows of that
  block in the four slots, and each of the eight steps is the softmax's weighted sum over them.
-/
module

public import proofs.«01_k».proof.Proof.Prog
public import proofs.«01_k».proof.Proof.Spec

@[expose] public section

set_option maxRecDepth 16384

noncomputable section

namespace Cert.KernelIdeal.Val

open Cert.KernelIdeal Cert.KernelIdeal.Gen Cert.KernelIdeal.Proto Cert.Attn
open Idealize.ShloMosaic

/-- The row of a slot that key `j` of query block `c` is. -/
abbrev rowOf (c : Fin 2) (j : Fin 256) : Fin 128 := ⟨64 * c.val + j.val % 64, by omega⟩
abbrev slotOf (j : Fin 256) : Fin 4 := ⟨j.val / 64, by omega⟩

/-- Equal entries of the exchanged keys: the slot and the row may be written in any way. -/
theorem entry_eq (kv : Vec Ideal S4x1x2x128x4x64 .bf16) {a a' : Fin 4} {r r' : Fin 128} (b : Fin 2) (h : Fin 4) (e : Fin 64)
    (ha : a.val = a'.val) (hr : r.val = r'.val) : kv (ix6 a 0 b r h e) = kv (ix6 a' 0 b r' h e) := by
  rw [Fin.ext ha, Fin.ext hr]

theorem keys0 (kv : Vec Ideal S4x1x2x128x4x64 .bf16) (b : Fin 2) (j : Fin 256) (h : Fin 4) (e : Fin 64) :
    k0_pay105 kv (ix4 b j h e) = kv (ix6 (slotOf j) 0 b (rowOf 0 j) h e) := by
  pointwise [k0_pay105, k0_pay102]
  split_ifs <;> refine entry_eq kv b h e ?_ ?_ <;> simp <;> omega

theorem vals0 (kv : Vec Ideal S4x1x2x128x4x64 .bf16) (b : Fin 2) (j : Fin 256) (h : Fin 4) (e : Fin 64) :
    k0_pay106 kv (ix4 b j h e) = kv (ix6 (slotOf j) 0 b (rowOf 0 j) h e) := by
  pointwise [k0_pay106, k0_pay103]
  split_ifs <;> refine entry_eq kv b h e ?_ ?_ <;> simp <;> omega

theorem keys1 (kv : Vec Ideal S4x1x2x128x4x64 .bf16) (b : Fin 2) (j : Fin 256) (h : Fin 4) (e : Fin 64) :
    k0_pay116 (k0_pay102 kv) (ix4 b j h e) = kv (ix6 (slotOf j) 0 b (rowOf 1 j) h e) := by
  pointwise [k0_pay116, k0_pay102]
  split_ifs <;> refine entry_eq kv b h e ?_ ?_ <;> simp <;> omega

theorem vals1 (kv : Vec Ideal S4x1x2x128x4x64 .bf16) (b : Fin 2) (j : Fin 256) (h : Fin 4) (e : Fin 64) :
    k0_pay119 (k0_pay103 kv) (k0_pay117 (k0_pay103 kv)) (k0_pay118 (k0_pay103 kv)) (ix4 b j h e) = kv (ix6 (slotOf j) 0 b (rowOf 1 j) h e) := by
  pointwise [k0_pay119, k0_pay117, k0_pay118, k0_pay103]
  split_ifs <;> refine entry_eq kv b h e ?_ ?_ <;> simp <;> omega

theorem qs0 (q : FVec Ideal S2x128x4x64 .bf16) (b : Fin 2) (s : Fin 64) (h : Fin 4) (e : Fin 64) :
    k0_pay104 q (ix4 b s h e) = q (ix4 b ⟨64 * (0 : Fin 2).val + s.val, by simp; omega⟩ h e) := by
  pointwise [k0_pay104]

theorem qs1 (q : FVec Ideal S2x128x4x64 .bf16) (b : Fin 2) (s : Fin 64) (h : Fin 4) (e : Fin 64) :
    k0_pay115 q (ix4 b s h e) = q (ix4 b ⟨64 * (1 : Fin 2).val + s.val, by simp; omega⟩ h e) := by
  pointwise [k0_pay115]

/-- One step of the attention on a block's queries, keys and values, at an index. -/
def attOn (q : Vec Ideal S2x64x4x64 .bf16) (k v : Vec Ideal S2x256x4x64 .bf16) (h : Fin 4) (b : Fin 2) (s e : Fin 64) : EReal :=
  att (fun j : Fin 256 => (∑ d : Fin 64, q (ix4 b s h d) * k (ix4 b j h d)) * eighth) fun j => v (ix4 b j h e)

section Steps
variable (q : FVec Ideal S2x128x4x64 .bf16) (kv vv : Vec Ideal S4x1x2x128x4x64 .bf16) (b : Fin 2) (s e : Fin 64)

theorem step0 (h : Fin 4) : ctxVal q kv vv (0, h) (ix4 b s 0 e) = attOn (k0_pay104 q) (k0_pay105 kv) (k0_pay106 vv) h b s e := by
  unfold attOn att expo top
  match h with
  | 0 => simp only [ctxVal]; pointwise [k0_pay108, k0_pay107]; rw [bits_bot]
  | 1 => simp only [ctxVal]; pointwise [k0_pay109]; rw [bits_bot]
  | 2 => simp only [ctxVal]; pointwise [k0_pay113, k0_pay110, k0_pay111, k0_pay112]; rw [bits_bot]
  | 3 => simp only [ctxVal]; pointwise [k0_pay114]; rw [bits_bot]

theorem step1 (h : Fin 4) : ctxVal q kv vv (1, h) (ix4 b s 0 e) = attOn (k0_pay115 q) (k0_pay116 (k0_pay102 kv)) (k0_pay119 (k0_pay103 vv) (k0_pay117 (k0_pay103 vv)) (k0_pay118 (k0_pay103 vv))) h b s e := by
  unfold attOn att expo top
  match h with
  | 0 => simp only [ctxVal]; pointwise [k0_pay120]; rw [bits_bot]
  | 1 => simp only [ctxVal]; pointwise [k0_pay124, k0_pay121, k0_pay122, k0_pay123]; rw [bits_bot]
  | 2 => simp only [ctxVal]; pointwise [k0_pay125]; rw [bits_bot]
  | 3 => simp only [ctxVal]; pointwise [k0_pay129, k0_pay126, k0_pay127, k0_pay128]; rw [bits_bot]

/-- Every step of the attention: the softmax of a query's scores against the two hundred and fifty-six keys of its block. -/
theorem ctxVal_apply (c : Fin 2) (h : Fin 4) :
    ctxVal q kv vv (c, h) (ix4 b s 0 e)
      = att (fun j : Fin 256 => (∑ d : Fin 64, q (ix4 b ⟨64 * c.val + s.val, by omega⟩ h d) * kv (ix6 (slotOf j) 0 b (rowOf c j) h d)) * eighth)
          fun j => vv (ix6 (slotOf j) 0 b (rowOf c j) h e) := by
  match c with
  | 0 => rw [step0]; simp only [attOn, qs0, keys0, vals0]
  | 1 => rw [step1]; simp only [attOn, qs1, keys1, vals1]

end Steps

end Cert.KernelIdeal.Val

end
-- ==== Proof.KernelValue.lean ====
/-
  What every device ends with, as a function of the whole arrays: `outOf` of the devices' blocks is `result` of the arrays
  that they are the blocks of.
-/
module

public import proofs.«01_k».proof.Proof.Keys
public import proofs.«01_k».proof.Proof.Protocol

@[expose] public section

set_option maxRecDepth 16384

noncomputable section

namespace Cert.KernelIdeal.Val

open Cert.KernelIdeal Cert.KernelIdeal.Gen Cert.KernelIdeal.Proto Cert.Attn
open Idealize.ShloMosaic

/-- The devices' arguments are their blocks of the whole arrays. -/
structure Blocks (I : Ins Ideal) (W : Whole) : Prop where
  x : ∀ (c : Fin 8) (b : Fin 2) (s : Fin 128) (m : Fin 512), I.x c (ix3 b s m) = W.x (ix3 b s m)
  wq : ∀ (c : Fin 8) (m : Fin 512) (t : Fin 256), I.wq c (ix2 m t) = W.wq (ix2 m ⟨256 * c.val + t.val, by omega⟩)
  k : ∀ (c : Fin 8) (b : Fin 2) (r : Fin 128) (h : Fin 32) (e : Fin 64), I.k c (ix4 b r h e) = W.k (ix4 b ⟨128 * c.val + r.val, by omega⟩ h e)
  v : ∀ (c : Fin 8) (b : Fin 2) (r : Fin 128) (h : Fin 32) (e : Fin 64), I.v c (ix4 b r h e) = W.v (ix4 b ⟨128 * c.val + r.val, by omega⟩ h e)
  wo : ∀ (c : Fin 8) (t : Fin 256) (n : Fin 512), I.wo c (ix2 t n) = W.wo (ix2 ⟨256 * c.val + t.val, by omega⟩ n)

theorem query_apply (x : Vec Ideal S2x128x512 .bf16) (w : Vec Ideal S512x256 .bf16) (b : Fin 2) (s : Fin 128) (h : Fin 4) (e : Fin 64) :
    k0_pay101 x w (ix4 b s h e) = ∑ m : Fin 512, x (ix3 b s m) * w (ix2 m ⟨h.val * 64 + e.val, by omega⟩) := by
  pointwise [k0_pay101]

theorem part_apply (cx : Vec Ideal S2x128x4x64 .f32) (wo : Vec Ideal S256x512 .bf16) (b : Fin 2) (s : Fin 128) (n : Fin 512) :
    k0_pay130 cx wo (ix3 b s n) = ∑ t : Fin 256, cx (ix4 b s ⟨t.val / 64, by omega⟩ ⟨t.val % 64, by omega⟩) * wo (ix2 t n) := by
  pointwise [k0_pay130]
  match b with
  | 0 => rfl
  | 1 => rfl

theorem sum_apply (a : Fin 8 → Vec Ideal S1x2x128x512 .bf16) (b : Fin 2) (s : Fin 128) (n : Fin 512) :
    k0_pay132 (k0_pay131 (a 0) (a 1) (a 2) (a 3)) (a 4) (a 5) (a 6) (a 7) (ix3 b s n) = ∑ d : Fin 8, a d (ix4 0 b s n) := by
  pointwise [k0_pay132, k0_pay131]
  rw [Fin.sum_univ_eight]

theorem kvRead_apply (I : Ins Ideal) (d : Fin 8) (j : Fin 2) (a : Fin 4) (b : Fin 2) (r : Fin 128) (h : Fin 4) (e : Fin 64) :
    kvRead I d j (ix6 a 0 b r h e) = kvOf (I.k (evenDev a)) (I.v (evenDev a)) d j b r h e := by
  refine Eq.trans ?_ (kvAll_ix I.k I.v d a j b r h e)
  show kvAll I.k I.v d ((kbHalfR j).emb (ix6 a 0 b r h e)) = _
  congr 1
  funext x
  refine Fin.ext ?_
  rw [Rect.emb_apply]
  fin_cases x <;> simp <;> rfl

theorem accRead_apply (I : Ins Ideal) (d : Fin 8) (b : Fin 2) (s : Fin 128) (n : Fin 512) :
    accRead I d (ix4 0 b s n) = parOf I d (ix3 b s n) := by
  show accAll (parOf I) ((acM.access (acR d)).emb (ValueIdx.ix4 0 b s n)) = _
  rw [acM_emb]
  rfl

variable {I : Ins Ideal} {W : Whole} (H : Blocks I W)
include H

/-- A device's queries are the whole queries of its heads. -/
theorem query_eq (d : Fin 8) (b : Fin 2) (s : Fin 128) (h : Fin 4) (e : Fin 64) :
    k0_pay101 (I.x d) (I.wq d) (ix4 b s h e) = query W b s ⟨4 * d.val + h.val, by omega⟩ e := by
  rw [query_apply, query]
  refine Finset.sum_congr rfl fun m _ => ?_
  rw [H.x, H.wq]
  congr 3
  apply Fin.ext; simp only; omega

theorem key_eq (d : Fin 8) (s : Fin 128) (j : Fin 256) (b : Fin 2) (h : Fin 4) (e : Fin 64) (c : Fin 2) (hc : c.val = s.val / 64) :
    kvRead I d 0 (ix6 (slotOf j) 0 b (rowOf c j) h e) = W.k (ix4 b (keyOf s j) ⟨4 * d.val + h.val, by omega⟩ e) := by
  rw [kvRead_apply, kvOf_key]
  refine (H.k _ _ _ _ _).trans ?_
  congr 2
  apply Fin.ext; simp only [evenDev, keyOf]; omega

theorem val_eq (d : Fin 8) (s : Fin 128) (j : Fin 256) (b : Fin 2) (h : Fin 4) (e : Fin 64) (c : Fin 2) (hc : c.val = s.val / 64) :
    kvRead I d 1 (ix6 (slotOf j) 0 b (rowOf c j) h e) = W.v (ix4 b (keyOf s j) ⟨4 * d.val + h.val, by omega⟩ e) := by
  rw [kvRead_apply, kvOf_val]
  refine (H.v _ _ _ _ _).trans ?_
  congr 2
  apply Fin.ext; simp only [evenDev, keyOf]; omega

/-- A device's context is the whole context of its heads. -/
theorem ctx_eq (d : Fin 8) (b : Fin 2) (s : Fin 128) (h : Fin 4) (e : Fin 64) :
    ctxFrom (ctxRows I d) (ix4 b s h e) = ctx W b s ⟨4 * d.val + h.val, by omega⟩ e := by
  have hs : s.val / 64 < 2 := by omega
  refine Eq.trans (show _ = ctxVal (k0_pay101 (I.x d) (I.wq d)) (kvRead I d 0) (kvRead I d 1) (⟨s.val / 64, hs⟩, h) (ix4 b ⟨s.val % 64, by omega⟩ 0 e) from rfl) ?_
  rw [ctxVal_apply]
  have e1 : (⟨64 * (s.val / 64) + s.val % 64, by omega⟩ : Fin 128) = s := Fin.ext (by simp only; omega)
  simp only [e1, query_eq H, key_eq H d s _ b h _ ⟨s.val / 64, hs⟩ rfl, val_eq H d s _ b h _ ⟨s.val / 64, hs⟩ rfl]
  rfl

/-- Every device ends with the whole result. -/
theorem outOf_eq (b : Fin 2) (s : Fin 128) (n : Fin 512) : outOf I (ix3 b s n) = result W b s n := by
  rw [result_split]
  refine (sum_apply (accRead I) b s n).trans (Finset.sum_congr rfl fun d _ => ?_)
  rw [accRead_apply, parOf, part_apply]
  refine Finset.sum_congr rfl fun t _ => ?_
  rw [H.wo, ctx_eq H]

end Cert.KernelIdeal.Val

end
-- ==== Proof.Placed.lean ====
/-
  The devices' arguments as the blocks of the whole arrays, the precondition read of the whole arrays, and the
  contents of the kernel's result.
-/
module

public import proofs.«01_k».proof.Defs
public import proofs.«01_k».proof.Proof.Launch
public import proofs.«01_k».proof.Proof.KernelValue
public import Idealize.ShloMosaic.Lib.Pipeline.ValueKit

@[expose] public section

set_option maxRecDepth 16384

noncomputable section

namespace Cert.KernelIdeal.Val

open Cert.KernelIdeal Cert.KernelIdeal.Gen Cert.KernelIdeal.Proto Cert.Attn
open Idealize.ShloMosaic Idealize.ShloMosaic.TcCoe

instance preKernel : Cert.Pre_finite_KernelIdeal.Facts := ⟨by decide, by decide, by decide, by decide⟩
instance preReference : Cert.Pre_finite_ReferenceIdeal.Facts := by constructor <;> decide

variable (m : (ℓ : Loc nD τ sig) → Buf (Elt Ideal) ℓ)

theorem ins_x (c : Dev nD) : (insOf m).x c = m ((c : Thread nD τ).loc main_arg0) := by
  funext i
  show (win0_0.blk t0_0).view.read (Elt Ideal) (m ((c : Thread nD τ).loc main_arg0)) i = _
  blk_simp
  exact congrArg (m ((c : Thread nD τ).loc main_arg0)) (funext fun a => Fin.ext (win0_0.rect_emb_val_of_index_zero t0_0 a (by revert a; decide +kernel) i))
theorem ins_wq (c : Dev nD) : (insOf m).wq c = m ((c : Thread nD τ).loc main_arg1) := by
  funext i
  show (win0_1.blk t0_0).view.read (Elt Ideal) (m ((c : Thread nD τ).loc main_arg1)) i = _
  blk_simp
  exact congrArg (m ((c : Thread nD τ).loc main_arg1)) (funext fun a => Fin.ext (win0_1.rect_emb_val_of_index_zero t0_0 a (by revert a; decide +kernel) i))
theorem ins_k (c : Dev nD) : (insOf m).k c = m ((c : Thread nD τ).loc main_arg2) := by
  funext i
  show (win0_2.blk t0_0).view.read (Elt Ideal) (m ((c : Thread nD τ).loc main_arg2)) i = _
  blk_simp
  exact congrArg (m ((c : Thread nD τ).loc main_arg2)) (funext fun a => Fin.ext (win0_2.rect_emb_val_of_index_zero t0_0 a (by revert a; decide +kernel) i))
theorem ins_v (c : Dev nD) : (insOf m).v c = m ((c : Thread nD τ).loc main_arg3) := by
  funext i
  show (win0_3.blk t0_0).view.read (Elt Ideal) (m ((c : Thread nD τ).loc main_arg3)) i = _
  blk_simp
  exact congrArg (m ((c : Thread nD τ).loc main_arg3)) (funext fun a => Fin.ext (win0_3.rect_emb_val_of_index_zero t0_0 a (by revert a; decide +kernel) i))
theorem ins_wo (c : Dev nD) : (insOf m).wo c = m ((c : Thread nD τ).loc main_arg4) := by
  funext i
  show (win0_4.blk t0_0).view.read (Elt Ideal) (m ((c : Thread nD τ).loc main_arg4)) i = _
  blk_simp
  exact congrArg (m ((c : Thread nD τ).loc main_arg4)) (funext fun a => Fin.ext (win0_4.rect_emb_val_of_index_zero t0_0 a (by revert a; decide +kernel) i))

/-- The kernel's result, on every device. -/
theorem finalA_out (c : Dev nD) : finalA m c (5 : Fin 6) = outOf (insOf m) := by
  refine (dats m 0 c).arrAt_eq_of_after_last (5 : Fin 6) t0_0 (by decide +kernel) _ fun j => ?_
  blk_simp
  rfl

/-- An extended real below the top in absolute value. -/
theorem fin_of_cmp (x : EReal) (h : Ideal.cmp .olt (max x (-x)) (Ideal.ofBits .f32 0x7F800000#32) = 1#1) : IsFin x := by
  rw [show Ideal.ofBits .f32 0x7F800000#32 = ⊤ by simp [Ideal.ofBits, Ideal.ieee]] at h
  have hlt : max x (-x) < ⊤ := by
    by_contra hn
    rw [show Ideal.cmp .olt (max x (-x)) ⊤ = BitVec.ofBool (decide (max x (-x) < ⊤)) from rfl, decide_eq_false hn] at h
    exact absurd h (by decide)
  constructor
  · rintro rfl
    simp at hlt
  · rintro rfl
    simp at hlt

/-- The blocks of four whole arrays and the copies of one, as the claim places them. -/
structure Placed (W : Whole) : Prop where
  x : ∀ c : Dev nD, m ((c : Thread nD τ).loc main_arg0) = W.x
  wq : ∀ c : Dev nD, m ((c : Thread nD τ).loc main_arg1) = Layout.block ⟨2, ![512, 256]⟩ ⟨2, ![512, 2048]⟩ 1 8 c W.wq
  k : ∀ c : Dev nD, m ((c : Thread nD τ).loc main_arg2) = Layout.block ⟨4, ![2, 128, 32, 64]⟩ ⟨4, ![2, 1024, 32, 64]⟩ 1 8 c W.k
  v : ∀ c : Dev nD, m ((c : Thread nD τ).loc main_arg3) = Layout.block ⟨4, ![2, 128, 32, 64]⟩ ⟨4, ![2, 1024, 32, 64]⟩ 1 8 c W.v
  wo : ∀ c : Dev nD, m ((c : Thread nD τ).loc main_arg4) = Layout.block ⟨2, ![256, 512]⟩ ⟨2, ![2048, 512]⟩ 0 8 c W.wo

variable {m} {W : Whole}

theorem Placed.blocks (H : Placed m W) : Blocks (insOf m) W where
  x c b s n := by rw [ins_x, H.x]
  wq c n t := by
    rw [ins_wq, H.wq]
    refine congrArg W.wq (funext fun a => Fin.ext ?_)
    fin_cases a
    · rfl
    · show c.val * 256 + t.val = 256 * c.val + t.val; omega
  k c b r h e := by
    rw [ins_k, H.k]
    refine congrArg W.k (funext fun a => Fin.ext ?_)
    fin_cases a
    · rfl
    · show c.val * 128 + r.val = 128 * c.val + r.val; omega
    · rfl
    · rfl
  v c b r h e := by
    rw [ins_v, H.v]
    refine congrArg W.v (funext fun a => Fin.ext ?_)
    fin_cases a
    · rfl
    · show c.val * 128 + r.val = 128 * c.val + r.val; omega
    · rfl
    · rfl
  wo c t n := by
    rw [ins_wo, H.wo]
    refine congrArg W.wo (funext fun a => Fin.ext ?_)
    fin_cases a
    · show c.val * 256 + t.val = 256 * c.val + t.val; omega
    · rfl

theorem pre_x (hP : Cert.Pre_KernelIdeal_finite_KernelIdeal m) (c : Dev nD) (i) : IsFin (m ((c : Thread nD τ).loc main_arg0) i) :=
  fin_of_cmp _ (congrFun (hP c).1 i)
theorem pre_wq (hP : Cert.Pre_KernelIdeal_finite_KernelIdeal m) (c : Dev nD) (i) : IsFin (m ((c : Thread nD τ).loc main_arg1) i) :=
  fin_of_cmp _ (congrFun (hP c).2.1 i)
theorem pre_k (hP : Cert.Pre_KernelIdeal_finite_KernelIdeal m) (c : Dev nD) (i) : IsFin (m ((c : Thread nD τ).loc main_arg2) i) :=
  fin_of_cmp _ (congrFun (hP c).2.2 i)

theorem Placed.fin_x (H : Placed m W) (hP : Cert.Pre_KernelIdeal_finite_KernelIdeal m) (i) : IsFin (W.x i) := by
  have := pre_x hP 0 i
  rwa [H.x] at this
theorem Placed.fin_wq (H : Placed m W) (hP : Cert.Pre_KernelIdeal_finite_KernelIdeal m) (i) : IsFin (W.wq i) := by
  obtain ⟨a, t, rfl⟩ : ∃ (a : Fin 512) (t : Fin 2048), i = ix2 a t := ⟨i 0, i 1, by funext a; fin_cases a <;> rfl⟩
  have := pre_wq (m := m) hP (⟨t.val / 256, by omega⟩ : Fin 8) (ix2 a ⟨t.val % 256, by omega⟩)
  rw [← ins_wq m, H.blocks.wq] at this
  convert this using 3
  exact Fin.ext (by simp only; omega)
theorem Placed.fin_k (H : Placed m W) (hP : Cert.Pre_KernelIdeal_finite_KernelIdeal m) (i) : IsFin (W.k i) := by
  obtain ⟨b, r, h, e, rfl⟩ : ∃ (b : Fin 2) (r : Fin 1024) (h : Fin 32) (e : Fin 64), i = ix4 b r h e := ⟨i 0, i 1, i 2, i 3, by funext a; fin_cases a <;> rfl⟩
  have := pre_k (m := m) hP (⟨r.val / 128, by omega⟩ : Fin 8) (ix4 b ⟨r.val % 128, by omega⟩ h e)
  rw [← ins_k m, H.blocks.k] at this
  convert this using 3
  exact Fin.ext (by simp only; omega)

/-- The kernel's result, of the whole arrays. -/
theorem Placed.out (H : Placed m W) (c : Dev nD) (b : Fin 2) (s : Fin 128) (n : Fin 512) : finalA m c (5 : Fin 6) (ix3 b s n) = result W b s n := by
  rw [finalA_out]
  exact outOf_eq H.blocks b s n

end Cert.KernelIdeal.Val

end
-- ==== Proof.RefTerm.lean ====
/-
  The reference's composed term, cut into its steps: the mask over queries and keys, the masked scores, the softmax's
  weights, the context and the projection.
-/
module

public import proofs.«01_k».proof.Proof.Gen.ReferenceIdeal.Run

@[expose] public section

set_option maxRecDepth 16384

noncomputable section

namespace Cert.ReferenceIdeal.Val

open Cert.ReferenceIdeal Cert.ReferenceIdeal.Gen
open Idealize.ShloMosaic Idealize.ShloMosaic.TcCoe

abbrev c64 : IVec S_ 32 := id (constantI S_ 32 64#32)
abbrev c0 : IVec S_ 32 := constantI S_ 32 0#32
abbrev c1 : IVec S_ 32 := constantI S_ 32 1#32

/-- The block of sixty-four that a query, or a key, is in. -/
def qBlock : IVec S128 32 :=
  select (andi (cmpi .ne (signi (iotaInDim S128 32 0)) (broadcastInDim S128 ![] bcast_S_S128 (signi c64)))
      (cmpi .ne (Host.remsi (iotaInDim S128 32 0) (broadcastInDim S128 ![] bcast_S_S128 c64)) (broadcastInDim S128 ![] bcast_S_S128 c0)))
    (subi (Host.divsi (iotaInDim S128 32 0) (broadcastInDim S128 ![] bcast_S_S128 c64)) (broadcastInDim S128 ![] bcast_S_S128 c1))
    (Host.divsi (iotaInDim S128 32 0) (broadcastInDim S128 ![] bcast_S_S128 c64))
def kBlock : IVec S1024 32 :=
  select (andi (cmpi .ne (signi (iotaInDim S1024 32 0)) (broadcastInDim S1024 ![] bcast_S_S1024 (signi c64)))
      (cmpi .ne (Host.remsi (iotaInDim S1024 32 0) (broadcastInDim S1024 ![] bcast_S_S1024 c64)) (broadcastInDim S1024 ![] bcast_S_S1024 c0)))
    (subi (Host.divsi (iotaInDim S1024 32 0) (broadcastInDim S1024 ![] bcast_S_S1024 c64)) (broadcastInDim S1024 ![] bcast_S_S1024 c1))
    (Host.divsi (iotaInDim S1024 32 0) (broadcastInDim S1024 ![] bcast_S_S1024 c64))
def qCol : IVec S128x1 32 := broadcastInDim S128x1 ![0] bcast_S128_S128x1_0 qBlock
def kRow : IVec S1x1024 32 := broadcastInDim S1x1024 ![1] bcast_S1024_S1x1024_1 kBlock

abbrev four : IVec S_ 32 := select (cmpi .eq (id (constantI S_ 32 4#32)) c0) c1 (id (constantI S_ 32 4#32))
/-- Its remainder by four. -/
def kMod (x : IVec S1x1024 32) : IVec S1x1024 32 :=
  select (andi (cmpi .ne (cmpi .slt (Host.remsi x (broadcastInDim S1x1024 ![] bcast_S_S1x1024 four)) (broadcastInDim S1x1024 ![] bcast_S_S1x1024 c0))
        (broadcastInDim S1x1024 ![] bcast_S_S1x1024 (cmpi .slt four c0)))
      (cmpi .ne (Host.remsi x (broadcastInDim S1x1024 ![] bcast_S_S1x1024 four)) (broadcastInDim S1x1024 ![] bcast_S_S1x1024 c0)))
    (addi (Host.remsi x (broadcastInDim S1x1024 ![] bcast_S_S1x1024 four)) (broadcastInDim S1x1024 ![] bcast_S_S1x1024 four))
    (Host.remsi x (broadcastInDim S1x1024 ![] bcast_S_S1x1024 four))
def qMod (x : IVec S128x1 32) : IVec S128x1 32 :=
  select (andi (cmpi .ne (cmpi .slt (Host.remsi x (broadcastInDim S128x1 ![] bcast_S_S128x1 four)) (broadcastInDim S128x1 ![] bcast_S_S128x1 c0))
        (broadcastInDim S128x1 ![] bcast_S_S128x1 (cmpi .slt four c0)))
      (cmpi .ne (Host.remsi x (broadcastInDim S128x1 ![] bcast_S_S128x1 four)) (broadcastInDim S128x1 ![] bcast_S_S128x1 c0)))
    (addi (Host.remsi x (broadcastInDim S128x1 ![] bcast_S_S128x1 four)) (broadcastInDim S128x1 ![] bcast_S_S128x1 four))
    (Host.remsi x (broadcastInDim S128x1 ![] bcast_S_S128x1 four))

/-- The mask. -/
def mask : IVec S128x1024 1 :=
  ori (cmpi .eq (broadcastInDim S128x1024 ![0, 1] bcast_S128x1_S128x1024_0_1 qCol) (broadcastInDim S128x1024 ![0, 1] bcast_S1x1024_S128x1024_0_1 kRow))
    (cmpi .eq (broadcastInDim S128x1024 ![0, 1] bcast_S1x1024_S128x1024_0_1 (kMod kRow)) (broadcastInDim S128x1024 ![0, 1] bcast_S128x1_S128x1024_0_1 (qMod qCol)))

variable {F : FTy → Type} [FloatOps F]

/-- The queries, -/
def queries (x : FVec F S2x128x512 .bf16) (wq : FVec F S512x2048 .bf16) : FVec F S2x128x32x64 .bf16 :=
  shapeCast _ (truncf .bf16 (Host.dotGeneral dot_S2x128x512_S512x2048_S2x128x2048_2_0_01_1_n_n none x wq) bitsLt_bf16_f32) shapeCasts_S2x128x2048_S2x128x32x64
/-- the scores under a mask, -/
def scores (M : IVec S128x1024 1) (q : FVec F S2x128x32x64 .bf16) (k : FVec F S2x1024x32x64 .bf16) : FVec F S2x32x128x1024 .f32 :=
  select (broadcastInDim S2x32x128x1024 ![0, 1, 2, 3] bcast_S1x1x128x1024_S2x32x128x1024_0_1_2_3 (broadcastInDim S1x1x128x1024 ![2, 3] bcast_S128x1024_S1x1x128x1024_2_3 M))
    (mulf (extf .f32 (truncf .bf16 (Host.dotGeneral dot_S2x128x32x64_S2x1024x32x64_S2x32x128x1024_3_3_1_1_02_02 none q k) bitsLt_bf16_f32) bitsLt_bf16_f32)
      (broadcastInDim S2x32x128x1024 ![] bcast_S_S2x32x128x1024 (constant S_ .f32 0x3E000000#32)))
    (broadcastInDim S2x32x128x1024 ![] bcast_S_S2x32x128x1024 (id (constant S_ .f32 0xFF800000#32)))
/-- their exponentials, -/
def expos (s : FVec F S2x32x128x1024 .f32) : FVec F S2x32x128x1024 .f32 :=
  Host.exp (subf s (broadcastInDim S2x32x128x1024 ![0, 1, 2, 3] bcast_S2x32x128x1_S2x32x128x1024_0_1_2_3 (broadcastInDim S2x32x128x1 ![0, 1, 2] bcast_S2x32x128_S2x32x128x1_0_1_2
    (Host.reduce FloatOps.maximumf s (constant S_ .f32 0xFF800000#32) reducesTo_S2x32x128x1024_S2x32x128_d3 h_S_))))
/-- the queries that attend to some key, -/
def rows (M : IVec S128x1024 1) : IVec S128 1 := Host.reduce IntOp.ori M (constantI S_ 1 0#1) reducesTo_S128x1024_S128_d1 h_S_
/-- the weights, -/
def weights (r : IVec S128 1) (e : FVec F S2x32x128x1024 .f32) : FVec F S2x32x128x1024 .f32 :=
  select (broadcastInDim S2x32x128x1024 ![0, 1, 2, 3] bcast_S1x1x128x1_S2x32x128x1024_0_1_2_3 (broadcastInDim S1x1x128x1 ![2] bcast_S128_S1x1x128x1_2 r))
    (Host.divf e (broadcastInDim S2x32x128x1024 ![0, 1, 2, 3] bcast_S2x32x128x1_S2x32x128x1024_0_1_2_3
      (select (broadcastInDim S2x32x128x1 ![0, 1, 2, 3] bcast_S1x1x128x1_S2x32x128x1_0_1_2_3 (broadcastInDim S1x1x128x1 ![2] bcast_S128_S1x1x128x1_2 r))
        (broadcastInDim S2x32x128x1 ![0, 1, 2] bcast_S2x32x128_S2x32x128x1_0_1_2 (Host.reduceAdd e (constant S_ .f32 0x00000000#32) reducesTo_S2x32x128x1024_S2x32x128_d3 h_S_))
        (broadcastInDim S2x32x128x1 ![] bcast_S_S2x32x128x1 (id (constant S_ .f32 0x3F800000#32))))))
    (broadcastInDim S2x32x128x1024 ![] bcast_S_S2x32x128x1024 (id (constant S_ .f32 0x00000000#32)))
/-- the context, -/
def context (v : FVec F S2x1024x32x64 .bf16) (w : FVec F S2x32x128x1024 .f32) : FVec F S2x128x2048 .f32 :=
  shapeCast _ (transpose S2x128x32x64 [0, 3, 1, 2] (Host.dotGeneral dot_S2x1024x32x64_S2x32x128x1024_S2x32x64x128_1_3_3_2_02_01 none (extf .f32 v bitsLt_bf16_f32) w)
    transposes_S2x32x64x128_S2x128x32x64_0_3_1_2) shapeCasts_S2x128x32x64_S2x128x2048
/-- and its projection. -/
def projected (ctx : FVec F S2x128x2048 .f32) (wo : FVec F S2048x512 .bf16) : FVec F S2x128x512 .f32 :=
  Host.dotGeneral dot_S2x128x2048_S2048x512_S2x128x512_2_0_01_1_n_n none ctx (extf .f32 wo bitsLt_bf16_f32)

/-- The reference, of its arguments. -/
def whole (x : FVec F S2x128x512 .bf16) (wq : FVec F S512x2048 .bf16) (k v : FVec F S2x1024x32x64 .bf16) (wo : FVec F S2048x512 .bf16) : FVec F S2x128x512 .f32 :=
  projected (context v (weights (rows mask) (expos (scores mask (queries x wq) k)))) wo

theorem res_eq (m : (ℓ : Loc nD τ sig) → Buf (Elt F) ℓ) (c : Dev nD) :
    Value.res_out0 m c = whole (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Val

end
-- ==== Proof.RefValue.lean ====
/-
  The reference read at an index: its result is `result` of the arrays, where the scores are finite.
-/
module

public import proofs.«01_k».proof.Proof.RefTerm
public import proofs.«01_k».proof.Proof.Spec
public import Idealize.ShloMosaic.Lib.Routing.OpsOrder

@[expose] public section

set_option maxRecDepth 16384

noncomputable section

namespace Cert.ReferenceIdeal.Val

open Cert.ReferenceIdeal Cert.ReferenceIdeal.Gen Cert.Attn
open Idealize.ShloMosaic

theorem qBlock_apply (s : Fin 128) : qBlock (ix1 s) = BitVec.ofNat 32 (s.val / 64) := by
  pointwise [qBlock]
  revert s; decide +kernel

theorem kBlock_apply (j : Fin 1024) : kBlock (ix1 j) = BitVec.ofNat 32 (j.val / 64) := by
  pointwise [kBlock]
  revert j; decide +kernel

theorem kMod_apply (j : Fin 1024) : kMod kRow (ix2 0 j) = BitVec.ofNat 32 (j.val / 64 % 4) := by
  pointwise [kMod, kRow]
  simp only [kBlock_apply]
  revert j; decide +kernel

theorem qMod_apply (s : Fin 128) : qMod qCol (ix2 s 0) = BitVec.ofNat 32 (s.val / 64) := by
  pointwise [qMod, qCol]
  simp only [qBlock_apply]
  revert s; decide +kernel

theorem eq_word {a b : ℕ} (ha : a < 2 ^ 32) (hb : b < 2 ^ 32) : (BitVec.ofNat 32 a = BitVec.ofNat 32 b) ↔ a = b := by
  rw [← BitVec.toNat_inj, BitVec.toNat_ofNat, BitVec.toNat_ofNat, Nat.mod_eq_of_lt ha, Nat.mod_eq_of_lt hb]

/-- A query attends to its own block and to the blocks of its residue by four: its block is one of the first two, so its own is among those. -/
theorem mask_apply (s : Fin 128) (j : Fin 1024) : mask (ix2 s j) = BitVec.ofBool (decide (Kept s j)) := by
  have hk := kMod_apply j
  have hq := qMod_apply s
  unfold kRow at hk
  unfold qCol at hq
  pointwise [mask, qCol, kRow]
  rw [hk, hq, qBlock_apply, kBlock_apply]
  show BitVec.ofBool (decide (BitVec.ofNat 32 (s.val / 64) = BitVec.ofNat 32 (j.val / 64)))
      ||| BitVec.ofBool (decide (BitVec.ofNat 32 (j.val / 64 % 4) = BitVec.ofNat 32 (s.val / 64))) = _
  simp only [eq_word (show s.val / 64 < 2 ^ 32 by omega) (show j.val / 64 < 2 ^ 32 by omega),
    eq_word (show j.val / 64 % 4 < 2 ^ 32 by omega) (show s.val / 64 < 2 ^ 32 by omega)]
  unfold Kept
  by_cases h : j.val / 64 % 4 = s.val / 64
  · rw [show decide (j.val / 64 % 4 = s.val / 64) = true from decide_eq_true h]
    cases decide (s.val / 64 = j.val / 64) <;> simp [h]
  · have : ¬ s.val / 64 = j.val / 64 := by omega
    simp [h, this]

theorem queries_apply (W : Whole) (b : Fin 2) (s : Fin 128) (h : Fin 32) (d : Fin 64) :
    queries (F := Ideal) W.x W.wq (ix4 b s h d) = query W b s h d := by
  unfold query
  pointwise [queries]

theorem select_ofBool {α : Type} (p : Prop) [Decidable p] (a b : α) : Scalar.select (BitVec.ofBool (decide p)) a b = if p then a else b := by
  by_cases h : p <;> simp [h, Scalar.select]

theorem scores_apply (W : Whole) (b : Fin 2) (h : Fin 32) (s : Fin 128) (j : Fin 1024) :
    scores (F := Ideal) mask (queries W.x W.wq) W.k (ix4 b h s j) = masked (Kept s) (score W b s h) j := by
  unfold masked score
  pointwise [scores]
  simp only [queries_apply, mask_apply, select_ofBool]
  rw [show (id (constant (F := Ideal) S_ FTy.f32 4286578688#32) ix0 : EReal) = ⊥ from bits_bot]

theorem expos_apply (t : FVec Ideal S2x32x128x1024 .f32) (f : Fin 2 → Fin 32 → Fin 128 → Fin 1024 → EReal) (ht : ∀ b h s j, t (ix4 b h s j) = f b h s j)
    (b : Fin 2) (h : Fin 32) (s : Fin 128) (j : Fin 1024) :
    expos t (ix4 b h s j) = expo (f b h s) j := by
  unfold expo top
  pointwise [expos]
  rw [bits_bot]
  simp only [ht]

theorem rows_apply (s : Fin 128) : rows mask (ix1 s) = 1#1 := by
  pointwise [rows]
  refine (Routing.fold_ori _ _).2 ⟨⟨s.val, by omega⟩, Finset.mem_univ _, ?_⟩
  rw [mask_apply, decide_eq_true (show Kept s ⟨s.val, by omega⟩ by unfold Kept; simp only; omega)]
  rfl

theorem weights_apply (r : IVec S128 1) (hr : ∀ s, r (ix1 s) = 1#1) (e : FVec Ideal S2x32x128x1024 .f32) (b : Fin 2) (h : Fin 32) (s : Fin 128) (j : Fin 1024) :
    weights r e (ix4 b h s j) = Ideal.div (e (ix4 b h s j)) (∑ i : Fin 1024, e (ix4 b h s i)) := by
  pointwise [weights]
  simp only [hr]
  rfl

theorem projected_apply (W : Whole) (w : FVec Ideal S2x32x128x1024 .f32) (b : Fin 2) (s : Fin 128) (n : Fin 512) :
    projected (context W.v w) W.wo (ix3 b s n)
      = ∑ t : Fin 2048, (∑ j : Fin 1024, w (ix4 b ⟨t.val / 64, by omega⟩ s j) * W.v (ix4 b j ⟨t.val / 64, by omega⟩ ⟨t.val % 64, by omega⟩)) * W.wo (ix2 t n) := by
  pointwise [projected, context]
  refine Finset.sum_congr rfl fun t _ => ?_
  congr 1
  exact Finset.sum_congr rfl fun j _ => mul_comm _ _

/-- The reference's result. -/
theorem whole_apply (W : Whole) (hx : ∀ i, IsFin (W.x i)) (hq : ∀ i, IsFin (W.wq i)) (hk : ∀ i, IsFin (W.k i)) (b : Fin 2) (s : Fin 128) (n : Fin 512) :
    whole (F := Ideal) W.x W.wq W.k W.v W.wo (ix3 b s n) = result W b s n := by
  unfold whole result
  rw [projected_apply]
  refine Finset.sum_congr rfl fun t _ => ?_
  refine congrArg (· * W.wo (ix2 t n)) ?_
  rw [← ctx_masked W hx hq hk]
  unfold att
  refine Finset.sum_congr rfl fun j _ => ?_
  simp only [weights_apply _ rows_apply, expos_apply _ (fun b h s => masked (Kept s) (score W b s h)) (scores_apply W)]

end Cert.ReferenceIdeal.Val

end
-- ==== Proof.lean ====
/-
  The claims of the certificate, put together: the three frames, the idealization, and the values: the kernel's result
  on every device is the reference's (Proof/Placed.lean, Proof/RefValue.lean). The kernel's run on the eight devices is `Proto.run_main` (Proof/Launch.lean), stated over any
  float values, so one proof of it serves the kernel's own words and the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.SameText
public import proofs.«01_k».proof.Proof.Placed
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe
open Cert.KernelIdeal Cert.KernelIdeal.Proto

variable {F : FTy → Type} [FloatOps F]

/-- The five arguments of every device, at the end of a run. -/
theorem args_kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (finalA_in m c (0 : Fin 6) rfl), (h c (1 : Fin 6)).trans (finalA_in m c (1 : Fin 6) rfl),
    (h c (2 : Fin 6)).trans (finalA_in m c (2 : Fin 6) rfl), (h c (3 : Fin 6)).trans (finalA_in m c (3 : Fin 6) rfl),
    (h c (4 : Fin 6)).trans (finalA_in m c (4 : Fin 6) rfl)⟩

/-- The kernel, over any float values, terminates, keeps its arguments and leaves every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept h.1 c, h.2⟩) (run_main m ρ)

theorem frame_kernelIdeal : Cert.quiescent_KernelIdeal := fun m ρ _ => frame (F := Ideal) m ρ

/-- The two programs have the same text. -/
theorem frame_kernel : Cert.quiescent_Kernel := fun m ρ _ =>
  (congrArg (fun D => θ_run D (onTc (τ := τ) (main (F := Bits))) ⟨m, fun _ => 0, ρ⟩ _) Cert.SameText.defs_eq).mpr (frame (F := Bits) m ρ)

/-- The reference is a straight line of host operations without a semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The arrays of the one-device memory. -/
def arrays (m' : (ℓ : Loc Cert.ReferenceIdeal.nD Cert.ReferenceIdeal.τ Cert.ReferenceIdeal.sig) → Buf (Elt Ideal) ℓ) : Cert.Attn.Whole where
  x := m' (((0 : Dev Cert.ReferenceIdeal.nD).tc : Thread Cert.ReferenceIdeal.nD Cert.ReferenceIdeal.τ).loc Cert.ReferenceIdeal.main_arg0)
  wq := m' (((0 : Dev Cert.ReferenceIdeal.nD).tc : Thread Cert.ReferenceIdeal.nD Cert.ReferenceIdeal.τ).loc Cert.ReferenceIdeal.main_arg1)
  k := m' (((0 : Dev Cert.ReferenceIdeal.nD).tc : Thread Cert.ReferenceIdeal.nD Cert.ReferenceIdeal.τ).loc Cert.ReferenceIdeal.main_arg2)
  v := m' (((0 : Dev Cert.ReferenceIdeal.nD).tc : Thread Cert.ReferenceIdeal.nD Cert.ReferenceIdeal.τ).loc Cert.ReferenceIdeal.main_arg3)
  wo := m' (((0 : Dev Cert.ReferenceIdeal.nD).tc : Thread Cert.ReferenceIdeal.nD Cert.ReferenceIdeal.τ).loc Cert.ReferenceIdeal.main_arg4)

/-- Every device ends with the reference's result. -/
theorem algebraic : Cert.algebraic_KernelIdeal_ReferenceIdeal_pre_finite_KernelIdeal := fun m g m' g' hP hB => by
  have H : Cert.KernelIdeal.Val.Placed m (arrays m') :=
    ⟨fun c => (hB c).1, fun c => (hB c).2.1, fun c => (hB c).2.2.1, fun c => (hB c).2.2.2.1, fun c => (hB c).2.2.2.2⟩
  refine ⟨Cert.ReferenceIdeal.Value.res_out0 m' 0, ?_, ?_⟩
  · refine (θ_run defs _ _).mono (fun r h c => ⟨(h.1 c (5 : Fin 6)).trans ?_, args_kept h.1 c⟩) (run_main m g)
    rw [Cert.ReferenceIdeal.Val.res_eq]
    funext i
    obtain ⟨b, s, n, rfl⟩ : ∃ (b : Fin 2) (s : Fin 128) (n : Fin 512), i = ix3 b s n := ⟨i 0, i 1, i 2, by funext a; fin_cases a <;> rfl⟩
    exact (H.out c b s n).trans (Cert.ReferenceIdeal.Val.whole_apply (arrays m') (H.fin_x hP) (H.fin_wq hP) (H.fin_k hP) b s n).symm
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    Cert.KernelIdeal.Val.preKernel, Cert.KernelIdeal.Val.preReference,
    frame_kernel, frame_kernelIdeal, fun m ρ _ => frame_kernelIdeal m ρ trivial,
    frame_referenceIdeal, fun m ρ _ => frame_referenceIdeal m ρ trivial, trivial, algebraic⟩

end Cert.Proof

end
